-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_labelled [hPre_labelled : Cert.Pre_labelled.Facts] (m : (ℓ : Loc Cert.KernelIdeal.nD Cert.KernelIdeal.τ Cert.KernelIdeal.sig) → Buf (Elt Ideal) ℓ) : Prop :=
  ∀ c : Dev Cert.KernelIdeal.nD,
    (Cert.Pre_labelled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_labelled [hPre_labelled : Cert.Pre_labelled.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_labelled.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_labelled [hKernelIdeal : Cert.KernelIdeal.Facts] [hPre_labelled : Cert.Pre_labelled.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_labelled m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_labelled [hReferenceIdeal : Cert.ReferenceIdeal.Facts] [hPre_labelled : Cert.Pre_labelled.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_labelled m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "alpha" .f32 0x3F4CCCCD#32 ((4 / 5 : ℝ) : EReal)

def algebraic_KernelIdeal_ReferenceIdeal_pre_labelled [hKernelIdeal : Cert.KernelIdeal.Facts] [hReferenceIdeal : Cert.ReferenceIdeal.Facts] [hPre_labelled : Cert.Pre_labelled.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_labelled m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v19)) (v1 : (c : Dev Cert.KernelIdeal.nD) → Buf (Elt Ideal) ((c.tc : Thread Cert.KernelIdeal.nD Cert.KernelIdeal.τ).loc Cert.KernelIdeal.main_v20)) (v2 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_v20) = v1 c
          ∧ r.2.mem ((c.tc : Thread Cert.KernelIdeal.nD Cert.KernelIdeal.τ).loc Cert.KernelIdeal.main_v22) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_v92) = v1 c
          ∧ r.2.mem ((c.tc : Thread Cert.ReferenceIdeal.nD Cert.ReferenceIdeal.τ).loc Cert.ReferenceIdeal.main_v71) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_labelled : Cert.Pre_labelled.Facts),
    quiescent_Kernel (hKernel := hKernel)
    ∧ quiescent_KernelIdeal (hKernelIdeal := hKernelIdeal)
    ∧ quiescent_KernelIdeal_pre_labelled (hKernelIdeal := hKernelIdeal) (hPre_labelled := hPre_labelled)
    ∧ quiescent_ReferenceIdeal (hReferenceIdeal := hReferenceIdeal)
    ∧ quiescent_ReferenceIdeal_pre_labelled (hReferenceIdeal := hReferenceIdeal) (hPre_labelled := hPre_labelled)
    ∧ preserves_Kernel_KernelIdeal
    ∧ algebraic_KernelIdeal_ReferenceIdeal_pre_labelled (hKernelIdeal := hKernelIdeal) (hReferenceIdeal := hReferenceIdeal) (hPre_labelled := hPre_labelled)
-- ==== Pre_labelled.lean ====
abbrev S100x768 : Shape := ⟨2, ![100, 768]⟩
abbrev S100 : Shape := ⟨1, ![100]⟩
abbrev S2000x768 : Shape := ⟨2, ![2000, 768]⟩
abbrev S_ : Shape := ⟨0, ![]⟩

class Facts : Prop where
  bcast_S_S100 : S_.BroadcastsInDim S100 (![] : Fin 0 → Fin S100.rank)
  reducesTo_S100_S_d0 : S100.ReducesTo [0] S_
  h_S_ : 0 < S_.numel

variable [Facts]

def fn {F : FTy → Type} [FloatOps F] (main_arg0 : FVec F S100x768 .f32) (main_arg1 : IVec S100 32) (main_arg2 : FVec F S2000x768 .f32) : IVec S_ 1 :=
  let main_c : IVec S_ 32 := constantI S_ 32 0#32
  let main_v0 : IVec S100 32 := broadcastInDim S100 ![] bcast_S_S100 main_c
  let main_v1 : IVec S100 1 := cmpi .sge main_arg1 main_v0
  let main_c_0 : IVec S_ 32 := constantI S_ 32 20#32
  let main_v2 : IVec S100 32 := broadcastInDim S100 ![] bcast_S_S100 main_c_0
  let main_v3 : IVec S100 1 := cmpi .slt main_arg1 main_v2
  let main_v4 : IVec S100 1 := andi main_v1 main_v3
  let main_c_1 : IVec S_ 1 := constantI S_ 1 1#1
  let main_v5 : IVec S_ 1 := (fun x v => Host.reduce IntOp.andi x v reducesTo_S100_S_d0 h_S_) main_v4 main_c_1
  main_v5
-- ==== Kernel.lean ====
abbrev S100x768 : Shape := ⟨2, ![100, 768]⟩
abbrev S100 : Shape := ⟨1, ![100]⟩
abbrev S2000x768 : Shape := ⟨2, ![2000, 768]⟩
abbrev S2100x768 : Shape := ⟨2, ![2100, 768]⟩
abbrev S768x2100 : Shape := ⟨2, ![768, 2100]⟩
abbrev S2100x2100 : Shape := ⟨2, ![2100, 2100]⟩
abbrev S_ : Shape := ⟨0, ![]⟩
abbrev S2176x2176 : Shape := ⟨2, ![2176, 2176]⟩
abbrev S1 : Shape := ⟨1, ![1]⟩
abbrev S2 : Shape := ⟨1, ![2]⟩
abbrev S2176x1 : Shape := ⟨2, ![2176, 1]⟩
abbrev S128x2176 : Shape := ⟨2, ![128, 2176]⟩
abbrev S128x1 : Shape := ⟨2, ![128, 1]⟩
abbrev S128 : Shape := ⟨1, ![128]⟩
abbrev S1x2176 : Shape := ⟨2, ![1, 2176]⟩
abbrev S2176x32 : Shape := ⟨2, ![2176, 32]⟩
abbrev S2176 : Shape := ⟨1, ![2176]⟩
abbrev S2000x1 : Shape := ⟨2, ![2000, 1]⟩
abbrev S2000 : Shape := ⟨1, ![2000]⟩
abbrev S2000x20 : Shape := ⟨2, ![2000, 20]⟩

abbrev nBuf : Space → Nat
  | .hbm => 37
  | .vmem => 27
  | .smem => 0
  | _ => 0

abbrev bufTy : (tb : Table) → Fin (tcTables nBuf tb) → BufTy
  | .hbm, ⟨0, _⟩ => ⟨S100x768, .f32⟩
  | .hbm, ⟨1, _⟩ => ⟨S100, .i32⟩
  | .hbm, ⟨2, _⟩ => ⟨S2000x768, .f32⟩
  | .hbm, ⟨3, _⟩ => ⟨S2100x768, .f32⟩
  | .hbm, ⟨4, _⟩ => ⟨S768x2100, .f32⟩
  | .hbm, ⟨5, _⟩ => ⟨S2100x2100, .f32⟩
  | .hbm, ⟨6, _⟩ => ⟨S_, .f32⟩
  | .hbm, ⟨7, _⟩ => ⟨S2176x2176, .f32⟩
  | .hbm, ⟨8, _⟩ => ⟨S_, .i32⟩
  | .hbm, ⟨9, _⟩ => ⟨S1, .i32⟩
  | .hbm, ⟨10, _⟩ => ⟨S_, .i32⟩
  | .hbm, ⟨11, _⟩ => ⟨S1, .i32⟩
  | .hbm, ⟨12, _⟩ => ⟨S2, .i32⟩
  | .hbm, ⟨13, _⟩ => ⟨S2176x2176, .f32⟩
  | .hbm, ⟨14, _⟩ => ⟨S2176x1, .f32⟩
  | .hbm, ⟨15, _⟩ => ⟨S1x2176, .f32⟩
  | .hbm, ⟨16, _⟩ => ⟨S2176x2176, .f32⟩
  | .hbm, ⟨17, _⟩ => ⟨S2176x2176, .bf16⟩
  | .hbm, ⟨18, _⟩ => ⟨S2176x2176, .bf16⟩
  | .hbm, ⟨19, _⟩ => ⟨S2176x2176, .bf16⟩
  | .hbm, ⟨20, _⟩ => ⟨S2176x1, .f32⟩
  | .hbm, ⟨21, _⟩ => ⟨S_, .i32⟩
  | .hbm, ⟨22, _⟩ => ⟨S2176x1, .i32⟩
  | .hbm, ⟨23, _⟩ => ⟨S_, .i32⟩
  | .hbm, ⟨24, _⟩ => ⟨S1, .i32⟩
  | .hbm, ⟨25, _⟩ => ⟨S_, .i32⟩
  | .hbm, ⟨26, _⟩ => ⟨S1, .i32⟩
  | .hbm, ⟨27, _⟩ => ⟨S2, .i32⟩
  | .hbm, ⟨28, _⟩ => ⟨S2176x1, .i32⟩
  | .hbm, ⟨29, _⟩ => ⟨S2176x32, .f32⟩
  | .hbm, ⟨30, _⟩ => ⟨S2176x1, .i32⟩
  | .hbm, ⟨31, _⟩ => ⟨S2176x1, .f32⟩
  | .hbm, ⟨32, _⟩ => ⟨S2000x1, .i32⟩
  | .hbm, ⟨33, _⟩ => ⟨S2000, .i32⟩
  | .hbm, ⟨34, _⟩ => ⟨S2000x20, .f32⟩
  | .hbm, ⟨35, _⟩ => ⟨S2000x1, .f32⟩
  | .hbm, ⟨36, _⟩ => ⟨S2000, .f32⟩
  | .local _ .vmem, ⟨0, _⟩ => ⟨S128x2176, .f32⟩
  | .local _ .vmem, ⟨1, _⟩ => ⟨S128x2176, .f32⟩
  | .local _ .vmem, ⟨2, _⟩ => ⟨S128x1, .f32⟩
  | .local _ .vmem, ⟨3, _⟩ => ⟨S128x1, .f32⟩
  | .local _ .vmem, ⟨4, _⟩ => ⟨S128x2176, .f32⟩
  | .local _ .vmem, ⟨5, _⟩ => ⟨S128x2176, .f32⟩
  | .local _ .vmem, ⟨6, _⟩ => ⟨S128x2176, .f32⟩
  | .local _ .vmem, ⟨7, _⟩ => ⟨S128x2176, .f32⟩
  | .local _ .vmem, ⟨8, _⟩ => ⟨S128x1, .f32⟩
  | .local _ .vmem, ⟨9, _⟩ => ⟨S128x1, .f32⟩
  | .local _ .vmem, ⟨10, _⟩ => ⟨S1x2176, .f32⟩
  | .local _ .vmem, ⟨11, _⟩ => ⟨S128x2176, .bf16⟩
  | .local _ .vmem, ⟨12, _⟩ => ⟨S128x2176, .bf16⟩
  | .local _ .vmem, ⟨13, _⟩ => ⟨S128x2176, .bf16⟩
  | .local _ .vmem, ⟨14, _⟩ => ⟨S128x2176, .bf16⟩
  | .local _ .vmem, ⟨15, _⟩ => ⟨S128x2176, .bf16⟩
  | .local _ .vmem, ⟨16, _⟩ => ⟨S128x2176, .bf16⟩
  | .local _ .vmem, ⟨17, _⟩ => ⟨S128x1, .f32⟩
  | .local _ .vmem, ⟨18, _⟩ => ⟨S128x1, .f32⟩
  | .local _ .vmem, ⟨19, _⟩ => ⟨S2176x2176, .bf16⟩
  | .local _ .vmem, ⟨20, _⟩ => ⟨S2176x2176, .bf16⟩
  | .local _ .vmem, ⟨21, _⟩ => ⟨S2176x2176, .bf16⟩
  | .local _ .vmem, ⟨22, _⟩ => ⟨S2176x1, .f32⟩
  | .local _ .vmem, ⟨23, _⟩ => ⟨S2176x1, .i32⟩
  | .local _ .vmem, ⟨24, _⟩ => ⟨S2176x32, .f32⟩
  | .local _ .vmem, ⟨25, _⟩ => ⟨S2176x1, .i32⟩
  | .local _ .vmem, ⟨26, _⟩ => ⟨S2176x1, .f32⟩
  | _, _ => ⟨S100x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11_0 : Ref sig .tc := ⟨.hbm, 17, rfl⟩
abbrev main_v11_1 : Ref sig .tc := ⟨.hbm, 18, rfl⟩
abbrev main_v11_2 : Ref sig .tc := ⟨.hbm, 19, rfl⟩
abbrev main_v11_3 : Ref sig .tc := ⟨.hbm, 20, rfl⟩
abbrev main_c_1 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_c_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17_0 : Ref sig .tc := ⟨.hbm, 29, rfl⟩
abbrev main_v17_1 : Ref sig .tc := ⟨.hbm, 30, rfl⟩
abbrev main_v17_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc1_stg5_0 : Ref sig .tc := ⟨.vmem, 13, rfl⟩
abbrev cc1_stg5_1 : Ref sig .tc := ⟨.vmem, 14, rfl⟩
abbrev cc1_stg6_0 : Ref sig .tc := ⟨.vmem, 15, rfl⟩
abbrev cc1_stg6_1 : Ref sig .tc := ⟨.vmem, 16, rfl⟩
abbrev cc1_stg7_0 : Ref sig .tc := ⟨.vmem, 17, rfl⟩
abbrev cc1_stg7_1 : Ref sig .tc := ⟨.vmem, 18, rfl⟩
abbrev cc2_stg0_0 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg6_0 : Ref sig .tc := ⟨.vmem, 25, rfl⟩
abbrev cc2_stg7_0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem4_0 : DmaSem sig := 11
abbrev cc1_sem4_1 : DmaSem sig := 12
abbrev cc1_sem5_0 : DmaSem sig := 13
abbrev cc1_sem5_1 : DmaSem sig := 14
abbrev cc1_sem6_0 : DmaSem sig := 15
abbrev cc1_sem6_1 : DmaSem sig := 16
abbrev cc1_sem7_0 : DmaSem sig := 17
abbrev cc1_sem7_1 : DmaSem sig := 18
abbrev cc2_sem0_0 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem6_0 : DmaSem sig := 25
abbrev cc2_sem7_0 : DmaSem sig := 26

abbrev nD : Nat := 1
abbrev τ : Topo := Topo.v7x

variable {F : FTy → Type} [FloatOps F]

abbrev grid0 : Pipeline.Grid := ⟨1, ![17], ![false]⟩

@[reducible] def k0_t1_loop : Scf.Loop 32 :=
  let c0_i32_2 : BitVec 32 := 0#32
  let c21_i32 : BitVec 32 := 21#32
  let v6 : BitVec 32 := Scalar.addi c0_i32_2 c21_i32
  let c1_i32 : BitVec 32 := 1#32
  ⟨c0_i32_2, v6, c1_i32⟩
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2176 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![17], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x2176 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x2176 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S128x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x2176 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S128x2176 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S128x2176 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S128x2176 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S128x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![1], ![false]⟩

@[reducible] def k2_t1_loop : Scf.Loop 32 :=
  let c0_i32 : BitVec 32 := 0#32
  let c3_i32 : BitVec 32 := 3#32
  let v15 : BitVec 32 := Scalar.addi c0_i32 c3_i32
  let c1_i32 : BitVec 32 := 1#32
  ⟨c0_i32, v15, c1_i32⟩
@[reducible] def k2_t2_loop : Scf.Loop 32 :=
  let c0_i32_32 : BitVec 32 := 0#32
  let c10_i32 : BitVec 32 := 10#32
  let v71 : BitVec 32 := Scalar.addi c0_i32_32 c10_i32
  let c1_i32_33 : BitVec 32 := 1#32
  ⟨c0_i32_32, v71, c1_i32_33⟩
def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S2176x2176 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S2176x2176 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S2176x2176 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S2176x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S2176x1 .i32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S2176x32 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S2176x1 .i32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S2176x1 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]
-- ==== KernelIdeal.lean ====
variable {F : FTy → Type} [FloatOps F] [Named F]
def κ : String → Option EReal := fun
  | "alpha" => some ((4 / 5 : ℝ) : EReal)
  | _ => none
-- ==== ReferenceIdeal.lean ====
abbrev S100x768 : Shape := ⟨2, ![100, 768]⟩
abbrev S100 : Shape := ⟨1, ![100]⟩
abbrev S2000x768 : Shape := ⟨2, ![2000, 768]⟩
abbrev S2100x768 : Shape := ⟨2, ![2100, 768]⟩
abbrev S768x2100 : Shape := ⟨2, ![768, 2100]⟩
abbrev S2100x2100 : Shape := ⟨2, ![2100, 2100]⟩
abbrev S2100x21 : Shape := ⟨2, ![2100, 21]⟩
abbrev S_ : Shape := ⟨0, ![]⟩
abbrev S2100 : Shape := ⟨1, ![2100]⟩
abbrev S2100x1 : Shape := ⟨2, ![2100, 1]⟩
abbrev S1x2100 : Shape := ⟨2, ![1, 2100]⟩
abbrev S2100x20 : Shape := ⟨2, ![2100, 20]⟩
abbrev S100x1 : Shape := ⟨2, ![100, 1]⟩
abbrev S100x2 : Shape := ⟨2, ![100, 2]⟩
abbrev S2000 : Shape := ⟨1, ![2000]⟩
abbrev S20 : Shape := ⟨1, ![20]⟩
abbrev S1 : Shape := ⟨1, ![1]⟩
abbrev S2000x20 : Shape := ⟨2, ![2000, 20]⟩

abbrev nBuf : Space → Nat
  | .hbm => 295
  | .vmem => 0
  | .smem => 0
  | _ => 0

abbrev hbmTy0_0 (i : Nat) : BufTy := match i % 128 with
  | 0 => ⟨S100x768, .f32⟩
  | 1 => ⟨S100, .i32⟩
  | 2 => ⟨S2000x768, .f32⟩
  | 3 => ⟨S2100x768, .f32⟩
  | 4 => ⟨S768x2100, .f32⟩
  | 5 => ⟨S2100x2100, .f32⟩
  | 6 => ⟨S2100x21, .f32⟩
  | 7 => ⟨S2100x21, .i32⟩
  | 8 => ⟨S_, .f32⟩
  | 9 => ⟨S2100, .f32⟩
  | 10 => ⟨S2100x1, .f32⟩
  | 11 => ⟨S2100x2100, .f32⟩
  | 12 => ⟨S2100x2100, .i1⟩
  | 13 => ⟨S2100x2100, .f32⟩
  | 14 => ⟨S_, .f32⟩
  | 15 => ⟨S2100x2100, .f32⟩
  | 16 => ⟨S2100x2100, .f32⟩
  | 17 => ⟨S2100x2100, .f32⟩
  | 18 => ⟨S_, .f32⟩
  | 19 => ⟨S2100x2100, .f32⟩
  | 20 => ⟨S2100x2100, .f32⟩
  | 21 => ⟨S2100x2100, .f32⟩
  | 22 => ⟨S2100x2100, .f32⟩
  | 23 => ⟨S2100x2100, .i32⟩
  | 24 => ⟨S2100x2100, .i32⟩
  | 25 => ⟨S_, .i32⟩
  | 26 => ⟨S2100x2100, .i32⟩
  | 27 => ⟨S2100x2100, .i32⟩
  | 28 => ⟨S2100x2100, .i1⟩
  | 29 => ⟨S2100x2100, .f32⟩
  | 30 => ⟨S_, .f32⟩
  | 31 => ⟨S2100x2100, .f32⟩
  | 32 => ⟨S2100x2100, .f32⟩
  | 33 => ⟨S2100x2100, .f32⟩
  | 34 => ⟨S_, .f32⟩
  | 35 => ⟨S2100, .f32⟩
  | 36 => ⟨S_, .f32⟩
  | 37 => ⟨S2100, .f32⟩
  | 38 => ⟨S2100, .i1⟩
  | 39 => ⟨S_, .f32⟩
  | 40 => ⟨S_, .f32⟩
  | 41 => ⟨S2100, .f32⟩
  | 42 => ⟨S2100, .f32⟩
  | 43 => ⟨S2100, .f32⟩
  | 44 => ⟨S_, .f32⟩
  | 45 => ⟨S2100, .f32⟩
  | 46 => ⟨S2100, .f32⟩
  | 47 => ⟨S2100x1, .f32⟩
  | 48 => ⟨S2100x2100, .f32⟩
  | 49 => ⟨S2100x2100, .f32⟩
  | 50 => ⟨S1x2100, .f32⟩
  | 51 => ⟨S2100x2100, .f32⟩
  | 52 => ⟨S2100x2100, .f32⟩
  | 53 => ⟨S_, .f32⟩
  | 54 => ⟨S_, .f32⟩
  | 55 => ⟨S_, .f32⟩
  | 56 => ⟨S2100x2100, .i32⟩
  | 57 => ⟨S2100x2100, .i32⟩
  | 58 => ⟨S_, .i32⟩
  | 59 => ⟨S2100x2100, .i32⟩
  | 60 => ⟨S2100x2100, .i32⟩
  | 61 => ⟨S2100x2100, .i1⟩
  | 62 => ⟨S2100x2100, .f32⟩
  | 63 => ⟨S2100x2100, .f32⟩
  | 64 => ⟨S2100x2100, .f32⟩
  | 65 => ⟨S2100x2100, .f32⟩
  | 66 => ⟨S_, .f32⟩
  | 67 => ⟨S2100x20, .f32⟩
  | 68 => ⟨S100, .i32⟩
  | 69 => ⟨S_, .i32⟩
  | 70 => ⟨S100, .i32⟩
  | 71 => ⟨S100, .i1⟩
  | 72 => ⟨S_, .i32⟩
  | 73 => ⟨S100, .i32⟩
  | 74 => ⟨S100, .i32⟩
  | 75 => ⟨S100, .i32⟩
  | 76 => ⟨S_, .i32⟩
  | 77 => ⟨S100, .i32⟩
  | 78 => ⟨S100, .i1⟩
  | 79 => ⟨S_, .i32⟩
  | 80 => ⟨S100, .i32⟩
  | 81 => ⟨S100, .i32⟩
  | 82 => ⟨S100, .i32⟩
  | 83 => ⟨S100x1, .i32⟩
  | 84 => ⟨S100x1, .i32⟩
  | 85 => ⟨S100x2, .i32⟩
  | 86 => ⟨S_, .f32⟩
  | 87 => ⟨S100, .f32⟩
  | 88 => ⟨S2100x20, .f32⟩
  | 89 => ⟨S_, .f32⟩
  | 90 => ⟨S2100x20, .f32⟩
  | 91 => ⟨S_, .i32⟩
  | 92 => ⟨S_, .i32⟩
  | 93 => ⟨S2100x2100, .f32⟩
  | 94 => ⟨S2100x20, .f32⟩
  | 95 => ⟨S_, .i32⟩
  | 96 => ⟨S_, .i32⟩
  | 97 => ⟨S2100x20, .f32⟩
  | 98 => ⟨S_, .i32⟩
  | 99 => ⟨S_, .i1⟩
  | 100 => ⟨S_, .i32⟩
  | 101 => ⟨S_, .i32⟩
  | 102 => ⟨S2100x20, .f32⟩
  | 103 => ⟨S2100x20, .f32⟩
  | 104 => ⟨S_, .f32⟩
  | 105 => ⟨S_, .f32⟩
  | 106 => ⟨S_, .f32⟩
  | 107 => ⟨S_, .f32⟩
  | 108 => ⟨S2100x20, .f32⟩
  | 109 => ⟨S_, .f32⟩
  | 110 => ⟨S_, .f32⟩
  | 111 => ⟨S_, .f32⟩
  | 112 => ⟨S_, .f32⟩
  | 113 => ⟨S_, .f32⟩
  | 114 => ⟨S_, .f32⟩
  | 115 => ⟨S_, .f32⟩
  | 116 => ⟨S_, .f32⟩
  | 117 => ⟨S_, .f32⟩
  | 118 => ⟨S2100x20, .f32⟩
  | 119 => ⟨S2100x20, .f32⟩
  | 120 => ⟨S2100x20, .f32⟩
  | 121 => ⟨S2100x20, .f32⟩
  | 122 => ⟨S2100x20, .f32⟩
  | 123 => ⟨S2100x20, .f32⟩
  | 124 => ⟨S2100x20, .f32⟩
  | 125 => ⟨S_, .f32⟩
  | 126 => ⟨S_, .f32⟩
  | 127 => ⟨S_, .f32⟩
  | _ => ⟨S100x768, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S2100x20, .f32⟩
  | 6 => ⟨S2100x20, .f32⟩
  | 7 => ⟨S2100x20, .f32⟩
  | 8 => ⟨S2100x20, .f32⟩
  | 9 => ⟨S2100x20, .f32⟩
  | 10 => ⟨S2100x20, .f32⟩
  | 11 => ⟨S2100x20, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S2100x20, .f32⟩
  | 21 => ⟨S2100x20, .f32⟩
  | 22 => ⟨S2100x20, .f32⟩
  | 23 => ⟨S2100x20, .f32⟩
  | 24 => ⟨S2100x20, .f32⟩
  | 25 => ⟨S2100x20, .f32⟩
  | 26 => ⟨S2100x20, .f32⟩
  | 27 => ⟨S_, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S2100x20, .f32⟩
  | 36 => ⟨S2100x20, .f32⟩
  | 37 => ⟨S2100x20, .f32⟩
  | 38 => ⟨S2100x20, .f32⟩
  | 39 => ⟨S2100x20, .f32⟩
  | 40 => ⟨S2100x20, .f32⟩
  | 41 => ⟨S2100x20, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S2100x20, .f32⟩
  | 51 => ⟨S2100x20, .f32⟩
  | 52 => ⟨S2100x20, .f32⟩
  | 53 => ⟨S2100x20, .f32⟩
  | 54 => ⟨S2100x20, .f32⟩
  | 55 => ⟨S2100x20, .f32⟩
  | 56 => ⟨S2100x20, .f32⟩
  | 57 => ⟨S_, .f32⟩
  | 58 => ⟨S_, .f32⟩
  | 59 => ⟨S_, .f32⟩
  | 60 => ⟨S_, .f32⟩
  | 61 => ⟨S_, .f32⟩
  | 62 => ⟨S_, .f32⟩
  | 63 => ⟨S_, .f32⟩
  | 64 => ⟨S_, .f32⟩
  | 65 => ⟨S2100x20, .f32⟩
  | 66 => ⟨S2100x20, .f32⟩
  | 67 => ⟨S2100x20, .f32⟩
  | 68 => ⟨S2100x20, .f32⟩
  | 69 => ⟨S2100x20, .f32⟩
  | 70 => ⟨S2100x20, .f32⟩
  | 71 => ⟨S2100x20, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S2100x20, .f32⟩
  | 81 => ⟨S2100x20, .f32⟩
  | 82 => ⟨S2100x20, .f32⟩
  | 83 => ⟨S2100x20, .f32⟩
  | 84 => ⟨S2100x20, .f32⟩
  | 85 => ⟨S2100x20, .f32⟩
  | 86 => ⟨S2100x20, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S2100x20, .f32⟩
  | 96 => ⟨S2100x20, .f32⟩
  | 97 => ⟨S2100x20, .f32⟩
  | 98 => ⟨S2100x20, .f32⟩
  | 99 => ⟨S2100x20, .f32⟩
  | 100 => ⟨S2100x20, .f32⟩
  | 101 => ⟨S2100x20, .f32⟩
  | 102 => ⟨S_, .f32⟩
  | 103 => ⟨S_, .f32⟩
  | 104 => ⟨S_, .f32⟩
  | 105 => ⟨S_, .f32⟩
  | 106 => ⟨S_, .f32⟩
  | 107 => ⟨S_, .f32⟩
  | 108 => ⟨S_, .f32⟩
  | 109 => ⟨S_, .f32⟩
  | 110 => ⟨S2100x20, .f32⟩
  | 111 => ⟨S2100x20, .f32⟩
  | 112 => ⟨S2100x20, .f32⟩
  | 113 => ⟨S2100x20, .f32⟩
  | 114 => ⟨S2100x20, .f32⟩
  | 115 => ⟨S2100x20, .f32⟩
  | 116 => ⟨S2100x20, .f32⟩
  | 117 => ⟨S2100x20, .f32⟩
  | 118 => ⟨S_, .i32⟩
  | 119 => ⟨S_, .i32⟩
  | 120 => ⟨S_, .f32⟩
  | 121 => ⟨S2100x20, .f32⟩
  | 122 => ⟨S2100x20, .i1⟩
  | 123 => ⟨S_, .f32⟩
  | 124 => ⟨S_, .f32⟩
  | 125 => ⟨S2100x20, .f32⟩
  | 126 => ⟨S2100x20, .f32⟩
  | 127 => ⟨S_, .f32⟩
  | _ => ⟨S100x768, .f32⟩

abbrev hbmTy0_2 (i : Nat) : BufTy := match i % 128 with
  | 0 => ⟨S2100, .f32⟩
  | 1 => ⟨S2000, .f32⟩
  | 2 => ⟨S_, .f32⟩
  | 3 => ⟨S2000, .f32⟩
  | 4 => ⟨S2000, .f32⟩
  | 5 => ⟨S2100x20, .f32⟩
  | 6 => ⟨S_, .f32⟩
  | 7 => ⟨S2100, .f32⟩
  | 8 => ⟨S2100x1, .f32⟩
  | 9 => ⟨S_, .f32⟩
  | 10 => ⟨S2100x1, .f32⟩
  | 11 => ⟨S2100x1, .f32⟩
  | 12 => ⟨S2100x20, .f32⟩
  | 13 => ⟨S2100x20, .f32⟩
  | 14 => ⟨S_, .f32⟩
  | 15 => ⟨S2100x20, .f32⟩
  | 16 => ⟨S2100x20, .i1⟩
  | 17 => ⟨S_, .f32⟩
  | 18 => ⟨S_, .f32⟩
  | 19 => ⟨S2100x20, .f32⟩
  | 20 => ⟨S2100x20, .f32⟩
  | 21 => ⟨S_, .f32⟩
  | 22 => ⟨S2100, .f32⟩
  | 23 => ⟨S2100x1, .f32⟩
  | 24 => ⟨S2100x20, .f32⟩
  | 25 => ⟨S2100x20, .i1⟩
  | 26 => ⟨S20, .i32⟩
  | 27 => ⟨S_, .i32⟩
  | 28 => ⟨S_, .i32⟩
  | 29 => ⟨S2100x20, .i32⟩
  | 30 => ⟨S2100x20, .i32⟩
  | 31 => ⟨S2100x20, .i32⟩
  | 32 => ⟨S_, .i32⟩
  | 33 => ⟨S2100, .i32⟩
  | 34 => ⟨S_, .i32⟩
  | 35 => ⟨S1, .i32⟩
  | 36 => ⟨S2100, .i32⟩
  | 37 => ⟨S2000, .i32⟩
  | 38 => ⟨S2000x20, .f32⟩
  | _ => ⟨S100x768, .f32⟩

abbrev hbmTy (i : Nat) : BufTy := match i / 128 with
  | 0 => hbmTy0_0 i
  | 1 => hbmTy0_1 i
  | 2 => hbmTy0_2 i
  | _ => ⟨S100x768, .f32⟩

abbrev bufTy : (tb : Table) → Fin (tcTables nBuf tb) → BufTy
  | .hbm, ⟨i, _⟩ => hbmTy i
  | _, _ => ⟨S100x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_values : Ref sig .tc := ⟨.hbm, 6, rfl⟩
abbrev main_indices : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_call0_cst : Ref sig .tc := ⟨.hbm, 14, rfl⟩
abbrev main_call0_v0 : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_call1_v0 : Ref sig .tc := ⟨.hbm, 40, rfl⟩
abbrev main_call1_v1 : Ref sig .tc := ⟨.hbm, 41, rfl⟩
abbrev main_v26 : Ref sig .tc := ⟨.hbm, 42, rfl⟩
abbrev main_v27 : Ref sig .tc := ⟨.hbm, 43, rfl⟩
abbrev main_cst_5 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_6 : Ref sig .tc := ⟨.hbm, 53, rfl⟩
abbrev main_cst_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_c_8 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_9 : Ref sig .tc := ⟨.hbm, 66, rfl⟩
abbrev main_v46 : Ref sig .tc := ⟨.hbm, 67, rfl⟩
abbrev main_v47 : Ref sig .tc := ⟨.hbm, 68, rfl⟩
abbrev main_c_10 : Ref sig .tc := ⟨.hbm, 69, rfl⟩
abbrev main_v48 : Ref sig .tc := ⟨.hbm, 70, rfl⟩
abbrev main_v49 : Ref sig .tc := ⟨.hbm, 71, rfl⟩
abbrev main_c_11 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_c_12 : Ref sig .tc := ⟨.hbm, 76, rfl⟩
abbrev main_v53 : Ref sig .tc := ⟨.hbm, 77, rfl⟩
abbrev main_v54 : Ref sig .tc := ⟨.hbm, 78, rfl⟩
abbrev main_c_13 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_14 : Ref sig .tc := ⟨.hbm, 86, rfl⟩
abbrev main_v61 : Ref sig .tc := ⟨.hbm, 87, rfl⟩
abbrev main_v62 : Ref sig .tc := ⟨.hbm, 88, rfl⟩
abbrev main_cst_15 : Ref sig .tc := ⟨.hbm, 89, rfl⟩
abbrev main_v63 : Ref sig .tc := ⟨.hbm, 90, rfl⟩
abbrev main_c_16 : Ref sig .tc := ⟨.hbm, 91, rfl⟩
abbrev main_c_17 : Ref sig .tc := ⟨.hbm, 92, rfl⟩
abbrev main_v64_0 : Ref sig .tc := ⟨.hbm, 93, rfl⟩
abbrev main_v64_1 : Ref sig .tc := ⟨.hbm, 94, rfl⟩
abbrev main_v64_2 : Ref sig .tc := ⟨.hbm, 95, rfl⟩
abbrev main_v64_3 : Ref sig .tc := ⟨.hbm, 96, rfl⟩
abbrev main_v64_4 : Ref sig .tc := ⟨.hbm, 97, rfl⟩
abbrev main_while0c_c_34 : Ref sig .tc := ⟨.hbm, 98, rfl⟩
abbrev main_while0c_v93 : Ref sig .tc := ⟨.hbm, 99, rfl⟩
abbrev main_while0b_c_34 : Ref sig .tc := ⟨.hbm, 100, rfl⟩
abbrev main_while0b_v93 : Ref sig .tc := ⟨.hbm, 101, rfl⟩
abbrev main_while0b_v94 : Ref sig .tc := ⟨.hbm, 102, rfl⟩
abbrev main_while0b_v95 : Ref sig .tc := ⟨.hbm, 103, rfl⟩
abbrev main_while0b_cst_35 : Ref sig .tc := ⟨.hbm, 104, rfl⟩
abbrev main_while0b_cst_36 : Ref sig .tc := ⟨.hbm, 105, rfl⟩
abbrev main_while0b_v96 : Ref sig .tc := ⟨.hbm, 106, rfl⟩
abbrev main_while0b_cst_37 : Ref sig .tc := ⟨.hbm, 107, rfl⟩
abbrev main_while0b_v97 : Ref sig .tc := ⟨.hbm, 108, rfl⟩
abbrev main_while0b_v98 : Ref sig .tc := ⟨.hbm, 109, rfl⟩
abbrev main_while0b_cst_38 : Ref sig .tc := ⟨.hbm, 110, rfl⟩
abbrev main_while0b_v99 : Ref sig .tc := ⟨.hbm, 111, rfl⟩
abbrev main_while0b_cst_39 : Ref sig .tc := ⟨.hbm, 112, rfl⟩
abbrev main_while0b_v100 : Ref sig .tc := ⟨.hbm, 113, rfl⟩
abbrev main_while0b_cst_40 : Ref sig .tc := ⟨.hbm, 114, rfl⟩
abbrev main_while0b_v101 : Ref sig .tc := ⟨.hbm, 115, rfl⟩
abbrev main_while0b_cst_41 : Ref sig .tc := ⟨.hbm, 116, rfl⟩
abbrev main_while0b_v102 : Ref sig .tc := ⟨.hbm, 117, rfl⟩
abbrev main_while0b_v103 : Ref sig .tc := ⟨.hbm, 118, rfl⟩
abbrev main_while0b_v104 : Ref sig .tc := ⟨.hbm, 119, rfl⟩
abbrev main_while0b_v105 : Ref sig .tc := ⟨.hbm, 120, rfl⟩
abbrev main_while0b_v106 : Ref sig .tc := ⟨.hbm, 121, rfl⟩
abbrev main_while0b_v107 : Ref sig .tc := ⟨.hbm, 122, rfl⟩
abbrev main_while0b_v108 : Ref sig .tc := ⟨.hbm, 123, rfl⟩
abbrev main_while0b_v109 : Ref sig .tc := ⟨.hbm, 124, rfl⟩
abbrev main_while0b_v110 : Ref sig .tc := ⟨.hbm, 125, rfl⟩
abbrev main_while0b_cst_42 : Ref sig .tc := ⟨.hbm, 126, rfl⟩
abbrev main_while0b_v111 : Ref sig .tc := ⟨.hbm, 127, rfl⟩
abbrev main_while0b_v112 : Ref sig .tc := ⟨.hbm, 128, rfl⟩
abbrev main_while0b_cst_43 : Ref sig .tc := ⟨.hbm, 129, rfl⟩
abbrev main_while0b_v113 : Ref sig .tc := ⟨.hbm, 130, rfl⟩
abbrev main_while0b_cst_44 : Ref sig .tc := ⟨.hbm, 131, rfl⟩
abbrev main_while0b_v114 : Ref sig .tc := ⟨.hbm, 132, rfl⟩
abbrev main_while0b_v115 : Ref sig .tc := ⟨.hbm, 133, rfl⟩
abbrev main_while0b_v116 : Ref sig .tc := ⟨.hbm, 134, rfl⟩
abbrev main_while0b_v117 : Ref sig .tc := ⟨.hbm, 135, rfl⟩
abbrev main_while0b_v118 : Ref sig .tc := ⟨.hbm, 136, rfl⟩
abbrev main_while0b_v119 : Ref sig .tc := ⟨.hbm, 137, rfl⟩
abbrev main_while0b_v120 : Ref sig .tc := ⟨.hbm, 138, rfl⟩
abbrev main_while0b_v121 : Ref sig .tc := ⟨.hbm, 139, rfl⟩
abbrev main_while0b_v122 : Ref sig .tc := ⟨.hbm, 140, rfl⟩
abbrev main_while0b_cst_45 : Ref sig .tc := ⟨.hbm, 141, rfl⟩
abbrev main_while0b_v123 : Ref sig .tc := ⟨.hbm, 142, rfl⟩
abbrev main_while0b_v124 : Ref sig .tc := ⟨.hbm, 143, rfl⟩
abbrev main_while0b_cst_46 : Ref sig .tc := ⟨.hbm, 144, rfl⟩
abbrev main_while0b_v125 : Ref sig .tc := ⟨.hbm, 145, rfl⟩
abbrev main_while0b_cst_47 : Ref sig .tc := ⟨.hbm, 146, rfl⟩
abbrev main_while0b_v126 : Ref sig .tc := ⟨.hbm, 147, rfl⟩
abbrev main_while0b_v127 : Ref sig .tc := ⟨.hbm, 148, rfl⟩
abbrev main_while0b_v128 : Ref sig .tc := ⟨.hbm, 149, rfl⟩
abbrev main_while0b_v129 : Ref sig .tc := ⟨.hbm, 150, rfl⟩
abbrev main_while0b_v130 : Ref sig .tc := ⟨.hbm, 151, rfl⟩
abbrev main_while0b_v131 : Ref sig .tc := ⟨.hbm, 152, rfl⟩
abbrev main_while0b_v132 : Ref sig .tc := ⟨.hbm, 153, rfl⟩
abbrev main_while0b_v133 : Ref sig .tc := ⟨.hbm, 154, rfl⟩
abbrev main_while0b_v134 : Ref sig .tc := ⟨.hbm, 155, rfl⟩
abbrev main_while0b_cst_48 : Ref sig .tc := ⟨.hbm, 156, rfl⟩
abbrev main_while0b_v135 : Ref sig .tc := ⟨.hbm, 157, rfl⟩
abbrev main_while0b_v136 : Ref sig .tc := ⟨.hbm, 158, rfl⟩
abbrev main_while0b_cst_49 : Ref sig .tc := ⟨.hbm, 159, rfl⟩
abbrev main_while0b_v137 : Ref sig .tc := ⟨.hbm, 160, rfl⟩
abbrev main_while0b_cst_50 : Ref sig .tc := ⟨.hbm, 161, rfl⟩
abbrev main_while0b_v138 : Ref sig .tc := ⟨.hbm, 162, rfl⟩
abbrev main_while0b_v139 : Ref sig .tc := ⟨.hbm, 163, rfl⟩
abbrev main_while0b_v140 : Ref sig .tc := ⟨.hbm, 164, rfl⟩
abbrev main_while0b_v141 : Ref sig .tc := ⟨.hbm, 165, rfl⟩
abbrev main_while0b_v142 : Ref sig .tc := ⟨.hbm, 166, rfl⟩
abbrev main_while0b_v143 : Ref sig .tc := ⟨.hbm, 167, rfl⟩
abbrev main_while0b_v144 : Ref sig .tc := ⟨.hbm, 168, rfl⟩
abbrev main_while0b_v145 : Ref sig .tc := ⟨.hbm, 169, rfl⟩
abbrev main_while0b_v146 : Ref sig .tc := ⟨.hbm, 170, rfl⟩
abbrev main_while0b_cst_51 : Ref sig .tc := ⟨.hbm, 171, rfl⟩
abbrev main_while0b_v147 : Ref sig .tc := ⟨.hbm, 172, rfl⟩
abbrev main_while0b_v148 : Ref sig .tc := ⟨.hbm, 173, rfl⟩
abbrev main_while0b_cst_52 : Ref sig .tc := ⟨.hbm, 174, rfl⟩
abbrev main_while0b_v149 : Ref sig .tc := ⟨.hbm, 175, rfl⟩
abbrev main_while0b_cst_53 : Ref sig .tc := ⟨.hbm, 176, rfl⟩
abbrev main_while0b_v150 : Ref sig .tc := ⟨.hbm, 177, rfl⟩
abbrev main_while0b_v151 : Ref sig .tc := ⟨.hbm, 178, rfl⟩
abbrev main_while0b_v152 : Ref sig .tc := ⟨.hbm, 179, rfl⟩
abbrev main_while0b_v153 : Ref sig .tc := ⟨.hbm, 180, rfl⟩
abbrev main_while0b_v154 : Ref sig .tc := ⟨.hbm, 181, rfl⟩
abbrev main_while0b_v155 : Ref sig .tc := ⟨.hbm, 182, rfl⟩
abbrev main_while0b_v156 : Ref sig .tc := ⟨.hbm, 183, rfl⟩
abbrev main_while0b_v157 : Ref sig .tc := ⟨.hbm, 184, rfl⟩
abbrev main_while0b_v158 : Ref sig .tc := ⟨.hbm, 185, rfl⟩
abbrev main_while0b_cst_54 : Ref sig .tc := ⟨.hbm, 186, rfl⟩
abbrev main_while0b_v159 : Ref sig .tc := ⟨.hbm, 187, rfl⟩
abbrev main_while0b_v160 : Ref sig .tc := ⟨.hbm, 188, rfl⟩
abbrev main_while0b_cst_55 : Ref sig .tc := ⟨.hbm, 189, rfl⟩
abbrev main_while0b_v161 : Ref sig .tc := ⟨.hbm, 190, rfl⟩
abbrev main_while0b_cst_56 : Ref sig .tc := ⟨.hbm, 191, rfl⟩
abbrev main_while0b_v162 : Ref sig .tc := ⟨.hbm, 192, rfl⟩
abbrev main_while0b_v163 : Ref sig .tc := ⟨.hbm, 193, rfl⟩
abbrev main_while0b_v164 : Ref sig .tc := ⟨.hbm, 194, rfl⟩
abbrev main_while0b_v165 : Ref sig .tc := ⟨.hbm, 195, rfl⟩
abbrev main_while0b_v166 : Ref sig .tc := ⟨.hbm, 196, rfl⟩
abbrev main_while0b_v167 : Ref sig .tc := ⟨.hbm, 197, rfl⟩
abbrev main_while0b_v168 : Ref sig .tc := ⟨.hbm, 198, rfl⟩
abbrev main_while0b_v169 : Ref sig .tc := ⟨.hbm, 199, rfl⟩
abbrev main_while0b_v170 : Ref sig .tc := ⟨.hbm, 200, rfl⟩
abbrev main_while0b_cst_57 : Ref sig .tc := ⟨.hbm, 201, rfl⟩
abbrev main_while0b_v171 : Ref sig .tc := ⟨.hbm, 202, rfl⟩
abbrev main_while0b_v172 : Ref sig .tc := ⟨.hbm, 203, rfl⟩
abbrev main_while0b_cst_58 : Ref sig .tc := ⟨.hbm, 204, rfl⟩
abbrev main_while0b_v173 : Ref sig .tc := ⟨.hbm, 205, rfl⟩
abbrev main_while0b_cst_59 : Ref sig .tc := ⟨.hbm, 206, rfl⟩
abbrev main_while0b_v174 : Ref sig .tc := ⟨.hbm, 207, rfl⟩
abbrev main_while0b_v175 : Ref sig .tc := ⟨.hbm, 208, rfl⟩
abbrev main_while0b_v176 : Ref sig .tc := ⟨.hbm, 209, rfl⟩
abbrev main_while0b_v177 : Ref sig .tc := ⟨.hbm, 210, rfl⟩
abbrev main_while0b_v178 : Ref sig .tc := ⟨.hbm, 211, rfl⟩
abbrev main_while0b_v179 : Ref sig .tc := ⟨.hbm, 212, rfl⟩
abbrev main_while0b_v180 : Ref sig .tc := ⟨.hbm, 213, rfl⟩
abbrev main_while0b_v181 : Ref sig .tc := ⟨.hbm, 214, rfl⟩
abbrev main_while0b_v182 : Ref sig .tc := ⟨.hbm, 215, rfl⟩
abbrev main_while0b_cst_60 : Ref sig .tc := ⟨.hbm, 216, rfl⟩
abbrev main_while0b_v183 : Ref sig .tc := ⟨.hbm, 217, rfl⟩
abbrev main_while0b_v184 : Ref sig .tc := ⟨.hbm, 218, rfl⟩
abbrev main_while0b_cst_61 : Ref sig .tc := ⟨.hbm, 219, rfl⟩
abbrev main_while0b_v185 : Ref sig .tc := ⟨.hbm, 220, rfl⟩
abbrev main_while0b_cst_62 : Ref sig .tc := ⟨.hbm, 221, rfl⟩
abbrev main_while0b_v186 : Ref sig .tc := ⟨.hbm, 222, rfl⟩
abbrev main_while0b_v187 : Ref sig .tc := ⟨.hbm, 223, rfl⟩
abbrev main_while0b_v188 : Ref sig .tc := ⟨.hbm, 224, rfl⟩
abbrev main_while0b_v189 : Ref sig .tc := ⟨.hbm, 225, rfl⟩
abbrev main_while0b_v190 : Ref sig .tc := ⟨.hbm, 226, rfl⟩
abbrev main_while0b_v191 : Ref sig .tc := ⟨.hbm, 227, rfl⟩
abbrev main_while0b_v192 : Ref sig .tc := ⟨.hbm, 228, rfl⟩
abbrev main_while0b_v193 : Ref sig .tc := ⟨.hbm, 229, rfl⟩
abbrev main_while0b_v194 : Ref sig .tc := ⟨.hbm, 230, rfl⟩
abbrev main_while0b_cst_63 : Ref sig .tc := ⟨.hbm, 231, rfl⟩
abbrev main_while0b_v195 : Ref sig .tc := ⟨.hbm, 232, rfl⟩
abbrev main_while0b_v196 : Ref sig .tc := ⟨.hbm, 233, rfl⟩
abbrev main_while0b_cst_64 : Ref sig .tc := ⟨.hbm, 234, rfl⟩
abbrev main_while0b_v197 : Ref sig .tc := ⟨.hbm, 235, rfl⟩
abbrev main_while0b_cst_65 : Ref sig .tc := ⟨.hbm, 236, rfl⟩
abbrev main_while0b_v198 : Ref sig .tc := ⟨.hbm, 237, rfl⟩
abbrev main_while0b_v199 : Ref sig .tc := ⟨.hbm, 238, rfl⟩
abbrev main_while0b_v200 : Ref sig .tc := ⟨.hbm, 239, rfl⟩
abbrev main_while0b_v201 : Ref sig .tc := ⟨.hbm, 240, rfl⟩
abbrev main_while0b_v202 : Ref sig .tc := ⟨.hbm, 241, rfl⟩
abbrev main_while0b_v203 : Ref sig .tc := ⟨.hbm, 242, rfl⟩
abbrev main_while0b_v204 : Ref sig .tc := ⟨.hbm, 243, rfl⟩
abbrev main_while0b_v205 : Ref sig .tc := ⟨.hbm, 244, rfl⟩
abbrev main_while0b_v206 : Ref sig .tc := ⟨.hbm, 245, rfl⟩
abbrev main_while0b_c_66 : Ref sig .tc := ⟨.hbm, 246, rfl⟩
abbrev main_while0b_v207 : Ref sig .tc := ⟨.hbm, 247, rfl⟩
abbrev main_cst_18 : Ref sig .tc := ⟨.hbm, 248, rfl⟩
abbrev main_v65 : Ref sig .tc := ⟨.hbm, 249, rfl⟩
abbrev main_v66 : Ref sig .tc := ⟨.hbm, 250, rfl⟩
abbrev main_cst_19 : Ref sig .tc := ⟨.hbm, 251, rfl⟩
abbrev main_call2_v0 : Ref sig .tc := ⟨.hbm, 252, rfl⟩
abbrev main_call2_v1 : Ref sig .tc := ⟨.hbm, 253, rfl⟩
abbrev main_v67 : Ref sig .tc := ⟨.hbm, 254, rfl⟩
abbrev main_cst_20 : Ref sig .tc := ⟨.hbm, 255, rfl⟩
abbrev main_v68 : Ref sig .tc := ⟨.hbm, 256, rfl⟩
abbrev main_v69 : Ref sig .tc := ⟨.hbm, 257, rfl⟩
abbrev main_cst_21 : Ref sig .tc := ⟨.hbm, 258, rfl⟩
abbrev main_v70 : Ref sig .tc := ⟨.hbm, 259, rfl⟩
abbrev main_v71 : Ref sig .tc := ⟨.hbm, 260, rfl⟩
abbrev main_v72 : Ref sig .tc := ⟨.hbm, 261, rfl⟩
abbrev main_cst_22 : Ref sig .tc := ⟨.hbm, 262, rfl⟩
abbrev main_v73 : Ref sig .tc := ⟨.hbm, 263, rfl⟩
abbrev main_v74 : Ref sig .tc := ⟨.hbm, 264, rfl⟩
abbrev main_cst_23 : Ref sig .tc := ⟨.hbm, 265, rfl⟩
abbrev main_v75 : Ref sig .tc := ⟨.hbm, 266, rfl⟩
abbrev main_v76 : Ref sig .tc := ⟨.hbm, 267, rfl⟩
abbrev main_v77 : Ref sig .tc := ⟨.hbm, 268, rfl⟩
abbrev main_v78 : Ref sig .tc := ⟨.hbm, 269, rfl⟩
abbrev main_cst_24 : Ref sig .tc := ⟨.hbm, 270, rfl⟩
abbrev main_v79 : Ref sig .tc := ⟨.hbm, 271, rfl⟩
abbrev main_v80 : Ref sig .tc := ⟨.hbm, 272, rfl⟩
abbrev main_cst_25 : Ref sig .tc := ⟨.hbm, 273, rfl⟩
abbrev main_call3_v0 : Ref sig .tc := ⟨.hbm, 274, rfl⟩
abbrev main_call3_v1 : Ref sig .tc := ⟨.hbm, 275, rfl⟩
abbrev main_v81 : Ref sig .tc := ⟨.hbm, 276, rfl⟩
abbrev main_cst_26 : Ref sig .tc := ⟨.hbm, 277, rfl⟩
abbrev main_v82 : Ref sig .tc := ⟨.hbm, 278, rfl⟩
abbrev main_v83 : Ref sig .tc := ⟨.hbm, 279, rfl⟩
abbrev main_v84 : Ref sig .tc := ⟨.hbm, 280, rfl⟩
abbrev main_v85 : Ref sig .tc := ⟨.hbm, 281, rfl⟩
abbrev main_v86 : Ref sig .tc := ⟨.hbm, 282, rfl⟩
abbrev main_c_27 : Ref sig .tc := ⟨.hbm, 283, rfl⟩
abbrev main_call4_v0 : Ref sig .tc := ⟨.hbm, 284, rfl⟩
abbrev main_call4_v1 : Ref sig .tc := ⟨.hbm, 285, rfl⟩
abbrev main_call4_v2 : Ref sig .tc := ⟨.hbm, 286, rfl⟩
abbrev main_v87 : Ref sig .tc := ⟨.hbm, 287, rfl⟩
abbrev main_c_28 : Ref sig .tc := ⟨.hbm, 288, rfl⟩
abbrev main_v88 : Ref sig .tc := ⟨.hbm, 289, rfl⟩
abbrev main_c_29 : Ref sig .tc := ⟨.hbm, 290, rfl⟩
abbrev main_v89 : Ref sig .tc := ⟨.hbm, 291, rfl⟩
abbrev main_v90 : Ref sig .tc := ⟨.hbm, 292, rfl⟩
abbrev main_v91 : Ref sig .tc := ⟨.hbm, 293, rfl⟩
abbrev main_v92 : Ref sig .tc := ⟨.hbm, 294, rfl⟩

abbrev nD : Nat := 1
abbrev τ : Topo := Topo.v7x

variable {F : FTy → Type} [FloatOps F]

abbrev main_while0_count : Scf.Loop 32 := ⟨0#32, 3#32, 1#32⟩
-- ==== Proof.Threshold.lean ====
/- Two ways to find the value of the k-th greatest entry of a row, and that they give the same test.

   `above h v` counts the entries of `h` that exceed `v`. A threshold `t` SELECTS at rank `k` when, for every `v` of
   interest, `t ≤ v` exactly if fewer than `k` entries exceed `v`. The least of the first `k` entries of a sorted row
   selects at rank `k` (`sorted_selects`), and so does the threshold found by taking the maximum, counting the entries
   equal to it, and striking them out, round after round (`rounds_selects`). -/
module

public import Mathlib.Data.EReal.Operations
public import Mathlib.Data.Fintype.BigOperators
public import Mathlib.Algebra.BigOperators.Fin
public import Mathlib.Order.Interval.Finset.Fin

@[expose] public section

noncomputable section

namespace Cert.Threshold

/-- How many entries of the row `h` exceed `v`. -/
def above {n : ℕ} (h : Fin n → EReal) (v : EReal) : ℕ := (Finset.univ.filter fun j => v < h j).card

/-- A greater bound is exceeded by fewer entries. -/
theorem above_anti {n : ℕ} (h : Fin n → EReal) {u v : EReal} (huv : u ≤ v) : above h v ≤ above h u :=
  Finset.card_le_card fun j hj => by
    simp only [Finset.mem_filter, Finset.mem_univ, true_and] at hj ⊢
    exact lt_of_le_of_lt huv hj

/-- SORTED: when `σ` lists the positions of the row in descending order, a value `t` that is the least of the first
    `k` listed entries is at most `v` exactly if fewer than `k` entries exceed `v`. -/
theorem sorted_selects {n : ℕ} (h : Fin n → EReal) (σ : Fin n → Fin n) (hσ : Function.Bijective σ)
    (hdesc : ∀ i j, i < j → h (σ j) ≤ h (σ i)) (k : ℕ) (hk : k ≤ n) (t v : EReal)
    (ht : t ≤ v ↔ ∃ i : Fin n, i.val < k ∧ h (σ i) ≤ v) : t ≤ v ↔ above h v < k := by
  rw [ht]
  constructor
  · rintro ⟨i, hik, hiv⟩
    refine lt_of_le_of_lt ?_ hik
    have hsub : (Finset.univ.filter fun j => v < h j) ⊆ (Finset.Iio i).image σ := by
      intro j hj
      simp only [Finset.mem_filter, Finset.mem_univ, true_and] at hj
      obtain ⟨l, rfl⟩ := hσ.2 j
      refine Finset.mem_image.2 ⟨l, Finset.mem_Iio.2 ?_, rfl⟩
      by_contra hl
      rcases eq_or_lt_of_le (not_lt.1 hl) with he | hlt
      · subst he; exact absurd hj (not_lt.2 hiv)
      · exact absurd (lt_of_lt_of_le hj (hdesc i l hlt)) (not_lt.2 hiv)
    refine (Finset.card_le_card hsub).trans (Finset.card_image_le.trans ?_)
    simp
  · intro hlt
    by_contra hno
    push Not at hno
    refine absurd hlt (not_lt.2 ?_)
    have hsub : ((Finset.univ : Finset (Fin k)).image fun i => σ (Fin.castLE hk i)) ⊆ Finset.univ.filter fun j => v < h j := by
      intro j hj
      obtain ⟨i, -, rfl⟩ := Finset.mem_image.1 hj
      simp only [Finset.mem_filter, Finset.mem_univ, true_and]
      exact hno _ i.isLt
    have := Finset.card_le_card hsub
    have hinj : Function.Injective fun i : Fin k => σ (Fin.castLE hk i) := hσ.1.comp (Fin.castLE_injective hk)
    rwa [Finset.card_image_of_injective _ hinj, Finset.card_univ, Fintype.card_fin] at this

/-- The greatest entry of a row (`⊥` for the empty one). -/
def top {n : ℕ} (h : Fin n → EReal) : EReal := Finset.univ.fold max ⊥ h

/-- The greatest entry is the supremum. -/
theorem top_eq_sup {n : ℕ} (h : Fin n → EReal) : top h = Finset.univ.sup h := rfl

/-- No entry exceeds it. -/
theorem le_top' {n : ℕ} (h : Fin n → EReal) (j : Fin n) : h j ≤ top h := by
  rw [top_eq_sup]; exact Finset.le_sup (Finset.mem_univ j)

/-- Some entry is it. -/
theorem exists_top {n : ℕ} (h : Fin n → EReal) (hn : 0 < n) : ∃ j, h j = top h := by
  haveI : Nonempty (Fin n) := ⟨⟨0, hn⟩⟩
  obtain ⟨j, -, hj⟩ := Finset.exists_mem_eq_sup Finset.univ Finset.univ_nonempty h
  exact ⟨j, hj.symm⟩

/-- ROUNDS: the state of the search, the row with the struck-out entries at `-1`, how many entries were struck out so
    far (an entry struck out again is counted again), and the threshold. -/
structure St (n : ℕ) where
  row : Fin n → EReal
  cnt : ℕ
  thr : EReal

/-- One round: the greatest entry is the new threshold unless `k` entries were struck out before; the entries equal to
    it are counted and struck out. -/
def St.next {n : ℕ} (k : ℕ) (s : St n) : St n where
  row j := if s.row j = top s.row then -1 else s.row j
  cnt := s.cnt + (Finset.univ.filter fun j => s.row j = top s.row).card
  thr := if s.cnt < k then top s.row else s.thr

/-- What holds after `t` rounds from the row `h`: either `k` entries are struck out and the threshold is right, or
    fewer are, at least `t`, and they are the greatest ones. -/
def Inv {n : ℕ} (k : ℕ) (h : Fin n → EReal) (t : ℕ) (s : St n) : Prop :=
  (k ≤ s.cnt ∧ above h s.thr < k ∧ k ≤ (Finset.univ.filter fun j => s.thr ≤ h j).card) ∨
  (s.cnt < k ∧ t ≤ s.cnt ∧ ∃ R : Finset (Fin n), s.cnt = R.card ∧ (∀ j, s.row j = if j ∈ R then -1 else h j) ∧
    ∀ i ∈ R, ∀ j, j ∉ R → h j < h i)

/-- The invariant holds before the first round. -/
theorem inv_zero {n : ℕ} (k : ℕ) (hk : 0 < k) (h : Fin n → EReal) (thr : EReal) : Inv k h 0 ⟨h, 0, thr⟩ :=
  Or.inr ⟨hk, le_rfl, ∅, by simp, by simp, by simp⟩

/-- A round keeps the invariant. -/
theorem inv_next {n : ℕ} (k : ℕ) (hkn : k ≤ n) (h : Fin n → EReal) (hpos : ∀ j, 0 ≤ h j) (t : ℕ) (s : St n)
    (hs : Inv k h t s) : Inv k h (t + 1) (s.next k) := by
  rcases hs with ⟨hc, ha, hb⟩ | ⟨hc, ht, R, hR, hrow, hgt⟩
  · refine Or.inl ?_
    have : (s.next k).thr = s.thr := by simp only [St.next, if_neg (not_lt.2 hc)]
    rw [this]
    exact ⟨by simp only [St.next]; omega, ha, hb⟩
  · -- an entry is left, for fewer than `n` are struck out
    obtain ⟨j₀, hj₀⟩ : ∃ j, j ∉ R := by
      by_contra hno
      push Not at hno
      have : R = Finset.univ := Finset.eq_univ_iff_forall.2 hno
      rw [this, Finset.card_univ, Fintype.card_fin] at hR
      omega
    have hneg : (-1 : EReal) < 0 := by
      rw [show (-1 : EReal) = ((-1 : ℝ) : EReal) by simp, show (0 : EReal) = ((0 : ℝ) : EReal) by simp]
      exact EReal.coe_lt_coe_iff.2 (by norm_num)
    have htop0 : 0 ≤ top s.row := by
      refine le_trans (hpos j₀) ?_
      have := le_top' s.row j₀
      rwa [hrow j₀, if_neg hj₀] at this
    have hnot : ∀ j, s.row j = top s.row → j ∉ R := by
      intro j hj hjR
      rw [hrow j, if_pos hjR] at hj
      rw [← hj] at htop0
      exact absurd htop0 (not_le.2 hneg)
    have hle : ∀ j, j ∉ R → h j ≤ top s.row := by
      intro j hj
      have := le_top' s.row j
      rwa [hrow j, if_neg hj] at this
    have hmax : ∀ j, s.row j = top s.row → h j = top s.row := by
      intro j hj
      have := hnot j hj
      rw [hrow j, if_neg this] at hj
      exact hj
    obtain ⟨j₁, hj₁⟩ := exists_top s.row (lt_of_le_of_lt (Nat.zero_le _) j₀.isLt)
    set E := Finset.univ.filter fun j => s.row j = top s.row with hE
    have hdisj : Disjoint R E := by
      rw [Finset.disjoint_left]
      intro j hjR hjE
      exact hnot j (Finset.mem_filter.1 hjE).2 hjR
    have hcnt' : (s.next k).cnt = (R ∪ E).card := by
      rw [Finset.card_union_of_disjoint hdisj, ← hR]; rfl
    have hEpos : 0 < E.card := Finset.card_pos.2 ⟨j₁, Finset.mem_filter.2 ⟨Finset.mem_univ _, hj₁⟩⟩
    have hthr : (s.next k).thr = top s.row := by simp only [St.next, if_pos hc]
    have habove : (Finset.univ.filter fun j => top s.row < h j) ⊆ R := by
      intro j hj
      by_contra hjR
      exact absurd (Finset.mem_filter.1 hj).2 (not_lt.2 (hle j hjR))
    have hmem : ∀ i, i ∈ R ∪ E ↔ i ∈ R ∨ s.row i = top s.row := by
      intro i; simp [hE]
    have hgeR : ∀ i ∈ R, top s.row < h i := by
      intro i hi
      rw [← hmax j₁ hj₁]
      exact hgt i hi j₁ (hnot j₁ hj₁)
    by_cases hk' : k ≤ (s.next k).cnt
    · refine Or.inl ⟨hk', ?_, ?_⟩
      · rw [hthr]
        exact lt_of_le_of_lt (Finset.card_le_card habove) (hR ▸ hc)
      · rw [hthr]
        refine hk'.trans (hcnt' ▸ Finset.card_le_card ?_)
        intro i hi
        refine Finset.mem_filter.2 ⟨Finset.mem_univ _, ?_⟩
        rcases (hmem i).1 hi with hi | hi
        · exact (hgeR i hi).le
        · exact (hmax i hi).ge
    · refine Or.inr ⟨not_le.1 hk', ?_, R ∪ E, hcnt', ?_, ?_⟩
      · have : (s.next k).cnt = s.cnt + E.card := rfl
        omega
      · intro j
        by_cases hj : s.row j = top s.row
        · rw [if_pos ((hmem j).2 (Or.inr hj))]; simp only [St.next, if_pos hj]
        · by_cases hjR : j ∈ R
          · rw [if_pos ((hmem j).2 (Or.inl hjR))]
            simp only [St.next, if_neg hj]
            rw [hrow j, if_pos hjR]
          · rw [if_neg (fun hm => ((hmem j).1 hm).elim hjR hj)]
            simp only [St.next, if_neg hj]
            rw [hrow j, if_neg hjR]
      · intro i hi j hj
        have hjR : j ∉ R := fun hjR => hj ((hmem j).2 (Or.inl hjR))
        have hjE : s.row j ≠ top s.row := fun he => hj ((hmem j).2 (Or.inr he))
        have hlt : h j < top s.row := by
          refine lt_of_le_of_ne (hle j hjR) fun he => hjE ?_
          rw [hrow j, if_neg hjR, he]
        rcases (hmem i).1 hi with hi | hi
        · exact hlt.trans (hgeR i hi)
        · rw [hmax i hi]; exact hlt

/-- So do several. -/
theorem inv_iterate {n : ℕ} (k : ℕ) (hk : 0 < k) (hkn : k ≤ n) (h : Fin n → EReal) (hpos : ∀ j, 0 ≤ h j) (thr : EReal) (t : ℕ) :
    Inv k h t ((St.next k)^[t] ⟨h, 0, thr⟩) := by
  induction t with
  | zero => exact inv_zero k hk h thr
  | succ t ih => rw [Function.iterate_succ_apply']; exact inv_next k hkn h hpos t _ ih

/-- ROUNDS: after `k` rounds from a row without negative entries the threshold is at most `v` exactly if fewer than `k`
    entries exceed `v`. -/
theorem rounds_selects {n : ℕ} (k : ℕ) (hk : 0 < k) (hkn : k ≤ n) (h : Fin n → EReal) (hpos : ∀ j, 0 ≤ h j)
    (thr v : EReal) : ((St.next k)^[k] ⟨h, 0, thr⟩).thr ≤ v ↔ above h v < k := by
  rcases inv_iterate k hk hkn h hpos thr k with ⟨-, ha, hb⟩ | ⟨hc, ht, -⟩
  · constructor
    · exact fun hv => lt_of_le_of_lt (above_anti h hv) ha
    · intro hlt
      by_contra hv
      refine absurd (lt_of_le_of_lt (hb.trans (Finset.card_le_card ?_)) hlt) (lt_irrefl k)
      intro j hj
      refine Finset.mem_filter.2 ⟨Finset.mem_univ _, ?_⟩
      exact lt_of_lt_of_le (not_le.1 hv) (Finset.mem_filter.1 hj).2
  · omega

/-- The count grows by at most the row's length a round. -/
theorem cnt_le {n : ℕ} (k : ℕ) (h : Fin n → EReal) (thr : EReal) (t : ℕ) : ((St.next k)^[t] ⟨h, 0, thr⟩).cnt ≤ t * n := by
  induction t with
  | zero => simp
  | succ t ih =>
    rw [Function.iterate_succ_apply']
    have : (Finset.univ.filter fun j => ((St.next k)^[t] ⟨h, 0, thr⟩).row j = top ((St.next k)^[t] ⟨h, 0, thr⟩).row).card ≤ n :=
      (Finset.card_le_univ _).trans (by simp)
    simp only [St.next] at this ⊢
    linarith [Nat.succ_mul t n, this, ih]

end Cert.Threshold

end
-- ==== Proof.Chebyshev.lean ====
/- The refined Chebyshev iteration over the reals, in the two ways the programs write it, and that they agree.

   On a vector space of blocks `V` and for a linear `A : V → V` whose spectrum lies in `[1 - α, 1 + α]`, `α = 4/5`, the
   TEXTBOOK form keeps the last two iterates and the weight `w` (`tb`), the kernel's UPDATE form keeps the iterate, the
   residual, the step and `ρ` (`up`). They are one iteration, `w = 2ρ/α` (`up_eq_tb`). -/
module

public import Mathlib.Analysis.SpecialFunctions.Pow.Real
public import Mathlib.Algebra.Module.LinearMap.Basic
public import Mathlib.Tactic.Module
public import Mathlib.Tactic.Linarith
public import Mathlib.Tactic.FieldSimp
public import Mathlib.Tactic.Ring
public import Mathlib.Tactic.NormNum

@[expose] public section

noncomputable section

namespace Cert.Chebyshev

/-- The kernel's `ρ`, before step `k`: `ρ₀ = α`, `ρ' = 1 / (2/α - ρ)`. -/
def rho : ℕ → ℝ
  | 0 => 4 / 5
  | k + 1 => 1 / (5 / 2 - rho k)

/-- The textbook's weight of step `k + 1`: `w₁ = 2`, `w' = 1 / (1 - α²/4 · w)`. -/
def weight : ℕ → ℝ
  | 0 => 2
  | k + 1 => 1 / (1 - 4 / 5 * (4 / 5) / 4 * weight k)

/-- The step factors lie strictly between 0 and 1. -/
theorem rho_bounds (k : ℕ) : 0 < rho k ∧ rho k < 1 := by
  induction k with
  | zero => unfold rho; norm_num
  | succ k ih =>
    unfold rho
    have h : (0 : ℝ) < 5 / 2 - rho k := by linarith [ih.2]
    refine ⟨by positivity, ?_⟩
    rw [div_lt_one h]; linarith [ih.2]

/-- The denominator of the next step factor is not 0. -/
theorem rho_den (k : ℕ) : 5 / 2 - rho k ≠ 0 := by have := (rho_bounds k).2; intro h; linarith

/-- The three-term form's weight is 5/2 of the update form's factor. -/
theorem weight_eq (k : ℕ) : weight k = 5 / 2 * rho k := by
  induction k with
  | zero => unfold weight rho; norm_num
  | succ k ih =>
    have h := rho_den k
    unfold weight rho
    rw [ih]
    have h2 : (1 : ℝ) - 4 / 5 * (4 / 5) / 4 * (5 / 2 * rho k) ≠ 0 := by
      intro hz; apply h; linarith
    have h3 : (1 : ℝ) - 4 / 5 * (4 / 5) / 4 * (5 / 2 * rho k) = 2 / 5 * (5 / 2 - rho k) := by ring
    rw [h3]; field_simp

/-- The denominator of the next weight is not 0. -/
theorem weight_den (k : ℕ) : (1 : ℝ) - 4 / 5 * (4 / 5) / 4 * weight k ≠ 0 := by
  rw [weight_eq]; intro hz; apply rho_den k; linarith

/-- The step's two coefficients in the two forms. -/
theorem rho_mul (k : ℕ) : rho (k + 1) * rho k = weight (k + 1) - 1 := by
  rw [weight_eq]
  have h := rho_den k
  have : rho (k + 1) = 1 / (5 / 2 - rho k) := rfl
  rw [this]
  generalize hx : 5 / 2 - rho k = x at h
  rw [show rho k = 5 / 2 - x by linarith]; field_simp

/-- The factor by which the update form adds the residual is the next weight. -/
theorem rho_step (k : ℕ) : 2 * rho (k + 1) / (4 / 5) = weight (k + 1) := by
  rw [weight_eq]; ring

variable {V : Type} [AddCommGroup V] [Module ℝ V] (A : V → V)

/-- TEXTBOOK: the last two iterates `(X_k, X_{k+1})` from the residual `R`. -/
def tb (R : V) : ℕ → V × V
  | 0 => (0, R)
  | k + 1 => ((tb R k).2, weight (k + 1) • ((tb R k).2 - (tb R k).1 + (R - A (tb R k).2)) + (tb R k).1)

/-- UPDATE: the iterate, its residual and the step, before step `k`. -/
def up (R : V) : ℕ → V × V × V
  | 0 => (0, R, R)
  | k + 1 =>
    let e := (up R k).1; let r := (up R k).2.1; let p := (up R k).2.2
    let r' := r - A p
    (e + p, r', (rho (k + 1) * rho k) • p + (2 * rho (k + 1) / (4 / 5)) • r')

/-- The two forms agree: the iterate is `X_k`, the residual its residual, the step `X_{k+1} - X_k`. -/
theorem up_eq_tb (hA : IsLinearMap ℝ A) (R : V) (k : ℕ) :
    (up A R k).1 = (tb A R k).1 ∧ (up A R k).2.1 = R - A (tb A R k).1 ∧ (up A R k).1 + (up A R k).2.2 = (tb A R k).2 := by
  induction k with
  | zero =>
    refine ⟨rfl, ?_, ?_⟩
    · simp only [up, tb, hA.map_zero, sub_zero]
    · simp only [up, tb, zero_add]
  | succ k ih =>
    obtain ⟨h1, h2, h3⟩ := ih
    have hp : (up A R k).2.2 = (tb A R k).2 - (tb A R k).1 := by rw [← h3, ← h1]; abel
    have hr : (up A R k).2.1 - A (up A R k).2.2 = R - A (tb A R k).2 := by
      rw [h2, hp, hA.map_sub]; abel
    refine ⟨?_, ?_, ?_⟩
    · simp only [up, tb]; exact h3
    · simp only [up, tb]; exact hr
    · simp only [up, tb]
      rw [hr, h3, hp, rho_mul, rho_step]
      module

/-- REFINEMENT: the textbook's `Z ← Z + cheb(Y - A Z)`, ten steps in. -/
def refine (Y Z : V) : V := Z + (tb A (Y - A Z) 9).2

/-- A linear map that carries one operator to the other carries the update form along. -/
theorem up_map {U : Type} [AddCommGroup U] [Module ℝ U] (B : U → U) (P : V → U) (hP : IsLinearMap ℝ P)
    (hPA : ∀ v, B (P v) = P (A v)) (R : V) (k : ℕ) :
    up B (P R) k = (P (up A R k).1, P (up A R k).2.1, P (up A R k).2.2) := by
  induction k with
  | zero => simp only [up, hP.map_zero]
  | succ k ih =>
    simp only [up, ih, hPA, hP.map_add, hP.map_sub, hP.map_smul]

end Cert.Chebyshev

end
-- ==== Proof.Spec.lean ====
/- The computation with no array and no tile in it: what both programs compute, over the extended reals up to the scaled
   affinity and over the reals from there on.

   `X` is the 2100 feature rows (100 labelled, then 2000 queries) and `Y` the 2100 × 20 labels in one-hot form. A row's
   neighbours are the columns of its Gram row that fewer than 21 entries of that row exceed; the affinity is
   symmetrised, its diagonal struck out, its rows and columns scaled by the root of the degrees; the label scores solve
   `(I - 4/5 · Wn) Z = Y` by three refinement rounds of ten Chebyshev steps (Proof/Chebyshev.lean).

   The padded forms over 2176 rows and 32 columns are the ones the kernel holds: zero outside. -/
module

public import proofs.«01_k».proof.Proof.Threshold
public import proofs.«01_k».proof.Proof.Chebyshev

@[expose] public section

noncomputable section

namespace Cert.Spec

open Cert.Threshold Cert.Chebyshev

/-- The embedding of the reals carries a finite sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The embedding of the reals carries the greater of two. -/
theorem coe_max (a b : ℝ) : ((max a b : ℝ) : EReal) = max (a : EReal) (b : EReal) := by
  rcases le_total a b with h | h
  · rw [max_eq_right h, max_eq_right (EReal.coe_le_coe_iff.2 h)]
  · rw [max_eq_left h, max_eq_left (EReal.coe_le_coe_iff.2 h)]

/-- An extended real that is neither negative nor infinite is the embedding of its real part. -/
theorem coe_of_nonneg {x : EReal} (h : 0 ≤ x) (ht : x ≠ ⊤) : ((x.toReal : ℝ) : EReal) = x :=
  EReal.coe_toReal ht fun e => by
    rw [e] at h
    exact absurd h (by simp)

/-! ## The graph

The features are extended reals, so a product, an affinity or a degree may be infinite. -/

section
variable (X : Fin 2100 → Fin 768 → EReal)

/-- The inner products. -/
def gram (i j : Fin 2100) : EReal := ∑ k, X i k * X j k

/-- `j` is among the 21 greatest of row `i`. -/
abbrev near (i j : Fin 2100) : Prop := above (gram X i) (gram X i j) < 21

/-- The cube of the positive part of a neighbour's product. -/
def cube (i j : Fin 2100) : EReal := if near X i j then max (gram X i j) 0 * max (gram X i j) 0 * max (gram X i j) 0 else 0

/-- A cube is not negative. -/
theorem cube_nonneg (i j : Fin 2100) : 0 ≤ cube X i j := by
  unfold cube; split
  · have h : 0 ≤ max (gram X i j) 0 := le_max_right _ _
    exact mul_nonneg (mul_nonneg h h) h
  · exact le_rfl

/-- The symmetrised affinity, no row its own neighbour. -/
def affE (i j : Fin 2100) : EReal := if i = j then 0 else cube X i j + cube X j i

/-- An affinity is not negative. -/
theorem affE_nonneg (i j : Fin 2100) : 0 ≤ affE X i j := by
  unfold affE; split
  · exact le_rfl
  · exact add_nonneg (cube_nonneg X i j) (cube_nonneg X j i)

/-- The affinity is symmetric. -/
theorem affE_symm (i j : Fin 2100) : affE X i j = affE X j i := by
  unfold affE
  by_cases h : i = j
  · rw [if_pos h, if_pos h.symm]
  · rw [if_neg h, if_neg (fun e => h e.symm), add_comm]

/-- The affinity as a real, an infinite one read as 0. -/
def aff (i j : Fin 2100) : ℝ := (affE X i j).toReal

/-- A row's degree. -/
def deg (i : Fin 2100) : EReal := ∑ j, affE X i j

/-- A degree is not negative. -/
theorem deg_nonneg (i : Fin 2100) : 0 ≤ deg X i := Finset.sum_nonneg fun j _ => affE_nonneg X i j

/-- The degree, an isolated row's read as 1. -/
def deg1 (i : Fin 2100) : EReal := if deg X i = 0 then 1 else deg X i

/-- That degree is positive. -/
theorem deg1_pos (i : Fin 2100) : 0 < deg1 X i := by
  unfold deg1; split
  · exact zero_lt_one
  · exact lt_of_le_of_ne (deg_nonneg X i) (Ne.symm ‹_›)

/-- The scaling, one over the root of the degree; an infinite degree scales by 0. -/
def dinv (i : Fin 2100) : ℝ := (Real.sqrt (deg1 X i).toReal)⁻¹

/-- A row with an infinite affinity is scaled by 0. -/
theorem dinv_of_top (i j : Fin 2100) (h : affE X i j = ⊤) : dinv X i = 0 := by
  have hd : deg X i = ⊤ := by
    refine top_le_iff.1 (h ▸ ?_)
    exact Finset.single_le_sum (f := affE X i) (fun l _ => affE_nonneg X i l) (Finset.mem_univ j)
  have h1 : deg1 X i = ⊤ := by
    unfold deg1
    rw [hd, if_neg (by simp)]
  unfold dinv
  rw [h1]
  simp

/-- An affinity times the scaling of its column is the real affinity times it: where the affinity is infinite the
    scaling is 0. -/
theorem affE_mul (i j : Fin 2100) (t : ℝ) : affE X i j * ((dinv X j * t : ℝ) : EReal) = ((aff X i j * (dinv X j * t) : ℝ) : EReal) := by
  by_cases h : affE X i j = ⊤
  · rw [dinv_of_top X j i (by rw [affE_symm, h])]
    simp
  · rw [EReal.coe_mul (aff X i j)]
    exact congrArg (· * _) (coe_of_nonneg (affE_nonneg X i j) h).symm

/-- What is left of an affinity after its leading part is nothing, once it is scaled. -/
theorem affE_rest (i j : Fin 2100) (t : ℝ) : (affE X i j - affE X i j) * ((dinv X j * t : ℝ) : EReal) = 0 := by
  by_cases h : affE X i j = ⊤
  · rw [dinv_of_top X j i (by rw [affE_symm, h])]
    simp
  · rw [← coe_of_nonneg (affE_nonneg X i j) h, ← EReal.coe_sub, sub_self]
    simp

/-- Nor is anything left after the second part. -/
theorem affE_last (i j : Fin 2100) (t : ℝ) :
    (affE X i j - affE X i j - (affE X i j - affE X i j)) * ((dinv X j * t : ℝ) : EReal) = 0 := by
  by_cases h : affE X i j = ⊤
  · rw [dinv_of_top X j i (by rw [affE_symm, h])]
    simp
  · rw [← coe_of_nonneg (affE_nonneg X i j) h, ← EReal.coe_sub, ← EReal.coe_sub, sub_self]
    simp

end

/-! ## The system -/

/-- `v ↦ v - 4/5 · D W D v`, for an affinity `W` and a scaling `D`. -/
def sys {n c : ℕ} (W : Fin n → Fin n → ℝ) (d : Fin n → ℝ) (v : Fin n → Fin c → ℝ) : Fin n → Fin c → ℝ :=
  fun i l => v i l - 4 / 5 * (d i * ∑ j, W i j * (d j * v j l))

/-- The system is linear. -/
theorem sys_linear {n c : ℕ} (W : Fin n → Fin n → ℝ) (d : Fin n → ℝ) : IsLinearMap ℝ (sys (c := c) W d) where
  map_add x y := by
    funext i l
    simp only [sys, Pi.add_apply, mul_add, Finset.sum_add_distrib]; ring
  map_smul a x := by
    funext i l
    simp only [sys, Pi.smul_apply, smul_eq_mul]
    have : ∑ j, W i j * (d j * (a * x j l)) = a * ∑ j, W i j * (d j * x j l) := by
      rw [Finset.mul_sum]; exact Finset.sum_congr rfl fun j _ => by ring
    rw [this]; ring

/-- The scores after three refinement rounds. -/
def scores (X : Fin 2100 → Fin 768 → EReal) (Y : Fin 2100 → Fin 20 → ℝ) : Fin 2100 → Fin 20 → ℝ :=
  (refine (sys (aff X) (dinv X)) Y)^[3] 0

/-! ## Padding -/

/-- A 2100 × 20 block as a 2176 × 32 one, zero outside. -/
def pad (v : Fin 2100 → Fin 20 → ℝ) : Fin 2176 → Fin 32 → ℝ :=
  fun i l => if h : i.val < 2100 ∧ l.val < 20 then v ⟨i.val, h.1⟩ ⟨l.val, h.2⟩ else 0

/-- Padding is linear. -/
theorem pad_linear : IsLinearMap ℝ pad where
  map_add x y := by funext i l; simp only [pad, Pi.add_apply]; split <;> simp
  map_smul a x := by funext i l; simp only [pad, Pi.smul_apply, smul_eq_mul]; split <;> simp

/-- A square array of 2100 rows as one of 2176, zero outside. -/
def padSq {M : Type} [Zero M] (w : Fin 2100 → Fin 2100 → M) : Fin 2176 → Fin 2176 → M :=
  fun i j => if h : i.val < 2100 ∧ j.val < 2100 then w ⟨i.val, h.1⟩ ⟨j.val, h.2⟩ else 0

/-- A sum over 2176 places whose terms vanish from place 2100 on. -/
theorem sum_pad {M : Type} [AddCommMonoid M] (f : Fin 2176 → M) (hf : ∀ j : Fin 2176, 2100 ≤ j.val → f j = 0) :
    ∑ j, f j = ∑ j : Fin 2100, f ⟨j.val, by omega⟩ := by
  have h := Fin.sum_univ_add (a := 2100) (b := 76) f
  rw [h, Finset.sum_eq_zero (s := Finset.univ) (f := fun i : Fin 76 => f (Fin.natAdd 2100 i)), add_zero]
  · rfl
  · intro i _; exact hf _ (by simp)

/-- A sum over 32 columns whose terms vanish from column 20 on. -/
theorem sum_pad32 {M : Type} [AddCommMonoid M] (f : Fin 32 → M) (hf : ∀ j : Fin 32, 20 ≤ j.val → f j = 0) :
    ∑ j, f j = ∑ j : Fin 20, f ⟨j.val, by omega⟩ := by
  have h := Fin.sum_univ_add (a := 20) (b := 12) f
  rw [h, Finset.sum_eq_zero (s := Finset.univ) (f := fun i : Fin 12 => f (Fin.natAdd 20 i)), add_zero]
  · rfl
  · intro i _; exact hf _ (by simp)

section
variable (X : Fin 2100 → Fin 768 → EReal)

/-- The padded affinity. -/
abbrev affP : Fin 2176 → Fin 2176 → EReal := padSq (affE X)

/-- The padded degrees. -/
def degP (i : Fin 2176) : EReal := ∑ j, padSq (affE X) i j

/-- A feature row's padded degree is its degree. -/
theorem degP_of_lt (i : Fin 2176) (h : i.val < 2100) : degP X i = deg X ⟨i.val, h⟩ := by
  unfold degP deg
  rw [sum_pad]
  · refine Finset.sum_congr rfl fun j _ => ?_
    unfold padSq; rw [dif_pos ⟨h, j.isLt⟩]
  · intro j hj; unfold padSq; rw [dif_neg]; omega

/-- A row of the padding has degree 0. -/
theorem degP_of_ge (i : Fin 2176) (h : 2100 ≤ i.val) : degP X i = 0 := by
  unfold degP
  refine Finset.sum_eq_zero fun j _ => ?_
  unfold padSq; rw [dif_neg]; omega

/-- The padded degrees, a zero read as 1. -/
def degP1 (i : Fin 2176) : EReal := if degP X i = 0 then 1 else degP X i

/-- The padded scaling. -/
def dinvP (i : Fin 2176) : ℝ := (Real.sqrt (degP1 X i).toReal)⁻¹

/-- A feature row's padded degree, a zero read as 1, is its own. -/
theorem degP1_of_lt (i : Fin 2176) (h : i.val < 2100) : degP1 X i = deg1 X ⟨i.val, h⟩ := by
  unfold degP1 deg1; rw [degP_of_lt X i h]

/-- That degree is positive. -/
theorem degP1_pos (i : Fin 2176) : 0 < degP1 X i := by
  by_cases h : i.val < 2100
  · rw [degP1_of_lt X i h]; exact deg1_pos X _
  · unfold degP1; rw [degP_of_ge X i (not_lt.1 h), if_pos rfl]; exact zero_lt_one

/-- A feature row's padded scaling is its own. -/
theorem dinvP_of_lt (i : Fin 2176) (h : i.val < 2100) : dinvP X i = dinv X ⟨i.val, h⟩ := by
  unfold dinvP dinv; rw [degP1_of_lt X i h]

/-- A padded affinity times the scaling of its column, in reals. -/
theorem padE_mul (i j : Fin 2176) (t : ℝ) :
    padSq (affE X) i j * ((dinvP X j * t : ℝ) : EReal) = ((padSq (aff X) i j * (dinvP X j * t) : ℝ) : EReal) := by
  unfold padSq
  by_cases h : i.val < 2100 ∧ j.val < 2100
  · rw [dif_pos h, dif_pos h, dinvP_of_lt X j h.2]; exact affE_mul X _ _ t
  · rw [dif_neg h, dif_neg h]; simp

/-- Nothing is left of it after its leading part. -/
theorem padE_rest (i j : Fin 2176) (t : ℝ) :
    (padSq (affE X) i j - padSq (affE X) i j) * ((dinvP X j * t : ℝ) : EReal) = 0 := by
  unfold padSq
  by_cases h : i.val < 2100 ∧ j.val < 2100
  · rw [dif_pos h, dinvP_of_lt X j h.2]; exact affE_rest X _ _ t
  · rw [dif_neg h]; simp

/-- Nor after its second part. -/
theorem padE_last (i j : Fin 2176) (t : ℝ) :
    (padSq (affE X) i j - padSq (affE X) i j - (padSq (affE X) i j - padSq (affE X) i j)) * ((dinvP X j * t : ℝ) : EReal) = 0 := by
  unfold padSq
  by_cases h : i.val < 2100 ∧ j.val < 2100
  · rw [dif_pos h, dinvP_of_lt X j h.2]; exact affE_last X _ _ t
  · rw [dif_neg h]; simp

/-- The padded system acts on padded blocks as the system acts on the blocks. -/
theorem sys_pad (v : Fin 2100 → Fin 20 → ℝ) :
    sys (padSq (aff X)) (dinvP X) (pad v) = pad (sys (aff X) (dinv X) v) := by
  funext i l
  unfold sys
  rw [sum_pad _ fun j hj => by unfold pad; rw [dif_neg (by omega)]; ring]
  by_cases h : i.val < 2100 ∧ l.val < 20
  · have hp : ∀ w : Fin 2100 → Fin 20 → ℝ, pad w i l = w ⟨i.val, h.1⟩ ⟨l.val, h.2⟩ := fun w => by
      unfold pad; rw [dif_pos h]
    rw [hp, hp, dinvP_of_lt X i h.1]
    congr 3
    refine Finset.sum_congr rfl fun j _ => ?_
    unfold padSq pad
    rw [dif_pos ⟨h.1, j.isLt⟩, dif_pos ⟨j.isLt, h.2⟩, dinvP_of_lt X _ j.isLt]
  · have hp : ∀ w : Fin 2100 → Fin 20 → ℝ, pad w i l = 0 := fun w => by unfold pad; rw [dif_neg h]
    rw [hp, hp, Finset.sum_eq_zero]
    · ring
    · intro j _
      rcases not_and_or.1 h with h | h
      · unfold padSq; rw [dif_neg (fun hh => h hh.1)]; ring
      · unfold pad; rw [dif_neg (fun hh => h hh.2)]; ring

/-- One refinement round as the kernel takes it: ten update steps from the residual of the padded system. -/
def kref (Y : Fin 2100 → Fin 20 → ℝ) (x : Fin 2176 → Fin 32 → ℝ) : Fin 2176 → Fin 32 → ℝ :=
  x + (up (sys (padSq (aff X)) (dinvP X)) (pad Y - sys (padSq (aff X)) (dinvP X) x) 10).1

/-- A refinement round of the padded problem is the padded round. -/
theorem kref_pad (Y z : Fin 2100 → Fin 20 → ℝ) :
    kref X Y (pad z) = pad (refine (sys (aff X) (dinv X)) Y z) := by
  unfold kref refine
  rw [sys_pad, ← pad_linear.map_sub, up_map (sys (aff X) (dinv X)) _ pad pad_linear (sys_pad X), pad_linear.map_add]
  refine congrArg (pad z + pad ·) ?_
  exact (up_eq_tb _ (sys_linear _ _) _ 10).1

/-- So are several rounds. -/
theorem kref_iterate (Y : Fin 2100 → Fin 20 → ℝ) (t : ℕ) :
    (kref X Y)^[t] 0 = pad ((refine (sys (aff X) (dinv X)) Y)^[t] 0) := by
  induction t with
  | zero => simp only [Function.iterate_zero, id]; exact (pad_linear.map_zero).symm
  | succ t ih => rw [Function.iterate_succ_apply', Function.iterate_succ_apply', ih, kref_pad]

/-- Three rounds of the kernel's form from zero are the padded scores. -/
theorem kref_scores (Y : Fin 2100 → Fin 20 → ℝ) : (kref X Y)^[3] 0 = pad (scores X Y) := kref_iterate X Y 3

/-! ## The kernel's threshold -/

/-- The padded Gram row. -/
def gramP : Fin 2176 → Fin 2176 → EReal := padSq (gram X)

/-- As many entries of a padded row's positive part exceed a positive value as entries of the row. -/
theorem gramP_row (i : Fin 2176) (h : i.val < 2100) (v : EReal) (hv : 0 < v) :
    above (fun j => max (gramP X i j) 0) v = above (gram X ⟨i.val, h⟩) v := by
  unfold above
  symm
  refine Finset.card_bij (fun l _ => (⟨l.val, by omega⟩ : Fin 2176)) ?_ ?_ ?_
  · intro l hl
    simp only [Finset.mem_filter, Finset.mem_univ, true_and] at hl ⊢
    unfold gramP padSq
    rw [dif_pos ⟨h, l.isLt⟩]
    exact lt_of_lt_of_le hl (le_max_left _ _)
  · intro a _ b _ hab
    exact Fin.ext (Fin.mk.inj_iff.1 hab)
  · intro j hj
    simp only [Finset.mem_filter, Finset.mem_univ, true_and] at hj
    have hj' : v < gramP X i j := by
      rcases lt_max_iff.1 hj with h1 | h1
      · exact h1
      · exact absurd h1 (not_lt.2 hv.le)
    unfold gramP padSq at hj'
    by_cases hl : i.val < 2100 ∧ j.val < 2100
    · rw [dif_pos hl] at hj'
      exact ⟨⟨j.val, hl.2⟩, by simpa using hj', rfl⟩
    · rw [dif_neg hl] at hj'
      exact absurd hj' (not_lt.2 hv.le)

/-- Masking a padded product's cube by a threshold that selects at rank 21 in the positive part of the row is the cube. -/
theorem cubeP_eq (i j : Fin 2176) (thr : EReal)
    (hthr : ∀ v : EReal, thr ≤ v ↔ above (fun j => max (gramP X i j) 0) v < 21) :
    (if thr ≤ gramP X i j then max (gramP X i j) 0 * max (gramP X i j) 0 * max (gramP X i j) 0 else 0)
      = padSq (cube X) i j := by
  by_cases hij : i.val < 2100 ∧ j.val < 2100
  · have hg : gramP X i j = gram X ⟨i.val, hij.1⟩ ⟨j.val, hij.2⟩ := by unfold gramP padSq; rw [dif_pos hij]
    have hc : padSq (cube X) i j = cube X ⟨i.val, hij.1⟩ ⟨j.val, hij.2⟩ := by unfold padSq; rw [dif_pos hij]
    rw [hg, hc]
    by_cases hpos : 0 < gram X ⟨i.val, hij.1⟩ ⟨j.val, hij.2⟩
    · unfold cube near
      refine if_congr ?_ rfl rfl
      rw [hthr, gramP_row X i hij.1 _ hpos]
    · unfold cube
      rw [max_eq_right (not_lt.1 hpos)]; simp
  · have hg : gramP X i j = 0 := by unfold gramP padSq; rw [dif_neg hij]
    have hc : padSq (cube X) i j = 0 := by unfold padSq; rw [dif_neg hij]
    rw [hg, hc]; simp

/-- The padded affinity from the padded cubes. -/
theorem affP_eq (i j : Fin 2176) :
    (if i = j then 0 else padSq (cube X) i j + padSq (cube X) j i) = padSq (affE X) i j := by
  unfold padSq
  by_cases hij : i.val < 2100 ∧ j.val < 2100
  · rw [dif_pos hij, dif_pos hij, dif_pos ⟨hij.2, hij.1⟩]
    unfold affE
    by_cases he : i = j
    · subst he; simp
    · rw [if_neg he, if_neg (fun h => he (Fin.ext (Fin.mk.inj_iff.1 h)))]
  · rw [dif_neg hij, dif_neg hij, dif_neg (fun h => hij ⟨h.2, h.1⟩)]; simp

end

end Cert.Spec

end
-- ==== Proof.Data.lean ====
/- The data both programs work on: the support rows above the query rows, and the given labels as a one-hot
   table. -/
module

public import proofs.«01_k».proof.Proof.Spec

@[expose] public section

noncomputable section

namespace Cert.Spec

/-- The support features above the query features. -/
def stack (a : Fin 100 → Fin 768 → EReal) (q : Fin 2000 → Fin 768 → EReal) : Fin 2100 → Fin 768 → EReal :=
  fun i k => if h : i.val < 100 then a ⟨i.val, h⟩ k else q ⟨i.val - 100, by omega⟩ k

/-- The given labels, one-hot on the first 100 rows; the other rows are zero. -/
def hot (lab : Fin 100 → BitVec 32) : Fin 2100 → Fin 20 → ℝ :=
  fun i l => if h : i.val < 100 then (if lab ⟨i.val, h⟩ = BitVec.ofNat 32 l.val then 1 else 0) else 0

/-- The labels the precondition allows: words of the numbers 0 to 19. -/
def Small (lab : Fin 100 → BitVec 32) : Prop := ∀ i, ∃ l : Fin 20, lab i = BitVec.ofNat 32 l.val

end Cert.Spec

end
-- ==== Proof.SolveRun.lean ====
/- The solve kernel's two counted loops as iterations of plain functions of the carried values, and what the kernel
   leaves in its three output buffers in terms of them. One trip of the inner loop is `inner`, one trip of the outer loop
   is `outer`; the generated loop recursions are their iterates. -/
module

public import proofs.«01_k».proof.Proof.Gen.KernelIdeal.Frame
public import Idealize.ShloMosaic.Lib.Pipeline.ValueKit

@[expose] public section

noncomputable section

namespace Cert.KernelIdeal.Value

open Idealize.ShloMosaic Idealize.ShloMosaic.TcCoe Idealize.SL.Sem
open Cert.KernelIdeal Cert.KernelIdeal.Gen

set_option maxRecDepth 16384

/-- What the inner loop carries: the correction, the residual, the direction and the recurrence's `rho`. -/
abbrev Carry := FVec Ideal S2176x32 .f32 × FVec Ideal S2176x32 .f32 × FVec Ideal S2176x32 .f32 × Ideal .f32

/-- One trip of the inner loop, over the row sums `v0` and the leading weight `W0`. -/
def inner (v0 : Vec Ideal S2176x1 .f32) (W0 : Vec Ideal S2176x2176 .bf16) (a : Carry) : Carry :=
  (k2_pay6 a.1 a.2.2.1, k2_pay7 v0 a.2.1 a.2.2.1 W0, k2_pay9 v0 a.2.1 a.2.2.1 a.2.2.2 W0, k2_pay8 a.2.2.2)

/-- What the inner loop starts from at the outer iterate `x`. -/
def start (v0 : Vec Ideal S2176x1 .f32) (v7 : Vec Ideal S2176x1 .i32) (W0 W1 W2 : Vec Ideal S2176x2176 .bf16)
    (x : FVec Ideal S2176x32 .f32) : Carry :=
  (k2_pay5, k2_pay4 v0 v7 x W0 W1 W2, k2_pay4 v0 v7 x W0 W1 W2, Named.named κ "alpha" 0x3F4CCCCD#32)

/-- One trip of the outer loop: ten inner trips, then the correction is added. -/
def outer (v0 : Vec Ideal S2176x1 .f32) (v7 : Vec Ideal S2176x1 .i32) (W0 W1 W2 : Vec Ideal S2176x2176 .bf16)
    (x : FVec Ideal S2176x32 .f32) : FVec Ideal S2176x32 .f32 :=
  k2_pay10 x ((inner v0 W0)^[10] (start v0 v7 W0 W1 W2 x)).1

/-- Two zero offsets. -/
theorem zero2 : (![0, 0] : Fin 2 → ℕ) = fun _ => 0 := funext fun a => by fin_cases a <;> rfl

/-- One trip of the inner loop is `inner`. -/
theorem inner_trip (𝒱 : Variants) (c : Dev nD) (bd : Option 𝒱.V) (i : grid2.Coords) (a1) (h1) (a2) (h2) (a3) (h3) (a4) (h4)
    (a5) (h5) (a6) (h6) (a7) (h7) (a8) (h8) (v0) (W0 : Vec Ideal S2176x2176 .bf16) (k) (acc) :
    tripR_k2_t2 (F := Ideal) 𝒱 c bd i a1 h1 a2 h2 a3 h3 a4 h4 a5 h5 a6 h6 a7 h7 a8 h8 v0 (h1.unread W0) k acc
      = inner v0 W0 acc := by
  unfold tripR_k2_t2 trip_k2_t2
  dsimp only
  sl_unfold_words
  simp only [View.readAt_eq_ld, h1.read_unread]
  simp only [View.ld_unit_zero (S := S2176x2176) zero2]
  rfl

/-- Its trips together are an iterate of `inner`. -/
theorem inner_iterate (𝒱 : Variants) (c : Dev nD) (bd : Option 𝒱.V) (i : grid2.Coords) (a1) (h1) (a2) (h2) (a3) (h3) (a4) (h4)
    (a5) (h5) (a6) (h6) (a7) (h7) (a8) (h8) (v0) (W0 : Vec Ideal S2176x2176 .bf16) (init) :
    ∀ k : ℕ, k ≤ k2_t2_loop.trips →
      st_k2_t2 (F := Ideal) 𝒱 c bd i a1 h1 a2 h2 a3 h3 a4 h4 a5 h5 a6 h6 a7 h7 a8 h8 v0 (h1.unread W0) init k
        = (inner v0 W0)^[k] init
  | 0, _ => rfl
  | k + 1, hk => by
    rw [st_k2_t2_succ 𝒱 c bd i a1 h1 a2 h2 a3 h3 a4 h4 a5 h5 a6 h6 a7 h7 a8 h8 v0 (h1.unread W0) init ⟨k, hk⟩,
      inner_trip, inner_iterate 𝒱 c bd i a1 h1 a2 h2 a3 h3 a4 h4 a5 h5 a6 h6 a7 h7 a8 h8 v0 W0 init k (Nat.le_of_succ_le hk),
      Function.iterate_succ_apply']

/-- The inner loop has ten trips. -/
theorem inner_trips : Scf.trips (0#32) (Scalar.addi 0#32 10#32) 1#32 = 10 := by decide +kernel
/-- The outer loop has three. -/
theorem outer_trips : Scf.trips (0#32) (Scalar.addi 0#32 3#32) 1#32 = 3 := by decide +kernel

/-- One trip of the outer loop is `outer`. -/
theorem outer_trip (𝒱 : Variants) (c : Dev nD) (bd : Option 𝒱.V) (i : grid2.Coords) (a1) (h1) (a2) (h2) (a3) (h3) (a4) (h4)
    (a5) (h5) (a6) (h6) (a7) (h7) (a8) (h8) (v0 v7) (W0 W1 W2 : Vec Ideal S2176x2176 .bf16) (k) (acc) :
    tripR_k2_t1 (F := Ideal) 𝒱 c bd i a1 h1 a2 h2 a3 h3 a4 h4 a5 h5 a6 h6 a7 h7 a8 h8 v0 v7
      (h1.unread W0) (h2.unread W1) (h3.unread W2) k acc = outer v0 v7 W0 W1 W2 acc := by
  unfold tripR_k2_t1 trip_k2_t1
  dsimp only
  sl_unfold_words
  simp only [View.readAt_eq_ld, h1.read_unread, h2.read_unread, h3.read_unread]
  rw [inner_trips, inner_iterate _ _ _ _ _ _ _ _ _ _ _ _ _ _ _ _ _ _ _ _ _ _ _ 10 (le_of_eq inner_trips.symm)]
  simp only [View.ld_unit_zero (S := S2176x2176) zero2]
  rfl

/-- Its trips together are an iterate of `outer`. -/
theorem outer_iterate (𝒱 : Variants) (c : Dev nD) (bd : Option 𝒱.V) (i : grid2.Coords) (a1) (h1) (a2) (h2) (a3) (h3) (a4) (h4)
    (a5) (h5) (a6) (h6) (a7) (h7) (a8) (h8) (v0 v7) (W0 W1 W2 : Vec Ideal S2176x2176 .bf16) (init) :
    ∀ k : ℕ, k ≤ k2_t1_loop.trips →
      st_k2_t1 (F := Ideal) 𝒱 c bd i a1 h1 a2 h2 a3 h3 a4 h4 a5 h5 a6 h6 a7 h7 a8 h8 v0 v7
          (h1.unread W0) (h2.unread W1) (h3.unread W2) init k
        = (outer v0 v7 W0 W1 W2)^[k] init
  | 0, _ => rfl
  | k + 1, hk => by
    rw [st_k2_t1_succ 𝒱 c bd i a1 h1 a2 h2 a3 h3 a4 h4 a5 h5 a6 h6 a7 h7 a8 h8 v0 v7 (h1.unread W0) (h2.unread W1) (h3.unread W2)
        init ⟨k, hk⟩,
      outer_trip, outer_iterate 𝒱 c bd i a1 h1 a2 h2 a3 h3 a4 h4 a5 h5 a6 h6 a7 h7 a8 h8 v0 v7 W0 W1 W2 init k (Nat.le_of_succ_le hk),
      Function.iterate_succ_apply']

/-- The solve kernel's state after its three outer trips. -/
def solved (v0 : Vec Ideal S2176x1 .f32) (v7 : Vec Ideal S2176x1 .i32) (W0 W1 W2 : Vec Ideal S2176x2176 .bf16) :
    FVec Ideal S2176x32 .f32 := (outer v0 v7 W0 W1 W2)^[3] k2_pay3

variable (V : (c : Dev nD) → (b : Ref sig .tc) → Buf (Elt Ideal) ((c : Thread nD τ).loc b))

/-- The probabilities, from the state the loops end with. -/
theorem left_5 (c : Dev nD) (t : Fin cfg2.N) : (outsAt2 (F := Ideal) V c t).1
    = k2_pay14 (solved (iblk2 V c 3 t) (iblk2 V c 4 t) (iblk2 V c 0 t) (iblk2 V c 1 t) (iblk2 V c 2 t)) := by
  funext y
  unfold outsAt2
  frame_out
  rw [outer_trips, outer_iterate _ _ _ _ _ _ _ _ _ _ _ _ _ _ _ _ _ _ _ _ _ _ _ _ _ _ 3 (le_of_eq outer_trips.symm)]
  rfl

/-- The labels, from that state. -/
theorem left_6 (c : Dev nD) (t : Fin cfg2.N) : (outsAt2 (F := Ideal) V c t).2.1
    = k2_pay1 (k2_pay15 (solved (iblk2 V c 3 t) (iblk2 V c 4 t) (iblk2 V c 0 t) (iblk2 V c 1 t) (iblk2 V c 2 t))) := by
  funext y
  unfold outsAt2
  frame_out
  rw [outer_trips, outer_iterate _ _ _ _ _ _ _ _ _ _ _ _ _ _ _ _ _ _ _ _ _ _ _ _ _ _ 3 (le_of_eq outer_trips.symm)]
  rfl

/-- The negated greatest scores, from that state. -/
theorem left_7 (c : Dev nD) (t : Fin cfg2.N) : (outsAt2 (F := Ideal) V c t).2.2
    = k2_pay13 (solved (iblk2 V c 3 t) (iblk2 V c 4 t) (iblk2 V c 0 t) (iblk2 V c 1 t) (iblk2 V c 2 t)) := by
  funext y
  unfold outsAt2
  frame_out
  rw [outer_trips, outer_iterate _ _ _ _ _ _ _ _ _ _ _ _ _ _ _ _ _ _ _ _ _ _ _ _ _ _ 3 (le_of_eq outer_trips.symm)]
  rfl

end Cert.KernelIdeal.Value

end
-- ==== Proof.Consts.lean ====
/- The float constants of the two programs as the extended reals their patterns denote. -/
module

public import Idealize.ShloMosaic.PureOps.Ideal
public import Idealize.ShloMosaic.Lib.IdealHost

@[expose] public section

noncomputable section

namespace Cert.Consts

open Idealize.ShloMosaic

/-- The word of -1. -/
theorem c_neg_one : Ideal.ofBits .f32 0xBF800000#32 = ((-1 : ℝ) : EReal) := by
  simp [Ideal.ofBits, Ideal.ieee, -EReal.coe_mul]; norm_num

/-- The word of 5/2. -/
theorem c_five_halves : Ideal.ofBits .f32 0x40200000#32 = ((5 / 2 : ℝ) : EReal) := by
  simp [Ideal.ofBits, Ideal.ieee, -EReal.coe_mul]; norm_num

/-- The word of 2. -/
theorem c_two : Ideal.ofBits .f32 0x40000000#32 = ((2 : ℝ) : EReal) := by
  simp [Ideal.ofBits, Ideal.ieee, -EReal.coe_mul]; norm_num

/-- The word of 3. -/
theorem c_three : Ideal.ofBits .f32 0x40400000#32 = ((3 : ℝ) : EReal) := by
  simp [Ideal.ofBits, Ideal.ieee, -EReal.coe_mul]; norm_num

/-- The word of 4. -/
theorem c_four : Ideal.ofBits .f32 0x40800000#32 = ((4 : ℝ) : EReal) := by
  simp [Ideal.ofBits, Ideal.ieee, -EReal.coe_mul]; norm_num

/-- The word of 5. -/
theorem c_five : Ideal.ofBits .f32 0x40A00000#32 = ((5 : ℝ) : EReal) := by
  simp [Ideal.ofBits, Ideal.ieee, -EReal.coe_mul]; norm_num

/-- The word of minus infinity. -/
theorem c_neg_inf : Ideal.ofBits .f32 0xFF800000#32 = ⊥ := by
  simp [Ideal.ofBits, Ideal.ieee, -EReal.coe_mul]

/-- The word of infinity. -/
theorem c_inf : Ideal.ofBits .f32 0x7F800000#32 = ⊤ := by
  simp [Ideal.ofBits, Ideal.ieee, -EReal.coe_mul]

/-- The least denominator, the binary value nearest 1e-12. -/
def eps : ℝ := 9223372 / 2 ^ 63

/-- The smallest divisor is positive. -/
theorem eps_pos : 0 < eps := by unfold eps; positivity

/-- The word of the smallest divisor. -/
theorem c_eps : Ideal.ofBits .f32 0x2B8CBCCC#32 = (eps : EReal) := by
  unfold eps
  simp [Ideal.ofBits, Ideal.ieee, -EReal.coe_mul]; norm_num

end Cert.Consts

end
-- ==== Proof.SolveValue.lean ====
/- The solve kernel over the extended reals, on blocks of reals: the inner loop is the update form of the Chebyshev
   iteration (`Chebyshev.up`), the outer loop the refinement (`Spec.kref`), so the state it ends with is the padded
   table of scores. -/
module

public import proofs.«01_k».proof.Proof.SolveRun
public import proofs.«01_k».proof.Proof.Spec
public import proofs.«01_k».proof.Proof.Consts
public import Idealize.ShloMosaic.Lib.Pointwise

@[expose] public section

noncomputable section

namespace Cert.KernelIdeal.Value

open Idealize.ShloMosaic Idealize.ShloMosaic.TcCoe Idealize.SL.Sem
open Cert.KernelIdeal Cert.KernelIdeal.Gen Cert.Spec Cert.Chebyshev Cert.Consts

set_option maxRecDepth 16384

/-- The named constant is 4/5. -/
theorem alpha : Named.named (F := Ideal) κ "alpha" (φ := .f32) 0x3F4CCCCD#32 = ((4 / 5 : ℝ) : EReal) := rfl

/-- A bit read as a number. -/
theorem word_of_bit (a : BitVec 1) :
    FloatOps.sitofp (F := Ideal) FTy.f32 (BitVec.setWidth 32 a) = ((if a = 1#1 then 1 else 0 : ℝ) : EReal) := by
  rcases BitVec.eq_zero_or_eq_one a with h | h <;> subst h <;> simp [FloatOps.sitofp]

/-- A comparison of words read as a number. -/
theorem word_of_eq (a b : BitVec 32) :
    FloatOps.sitofp (F := Ideal) FTy.f32 (BitVec.setWidth 32 (IntOp.cmpi CmpIPredicate.eq a b))
      = ((if a = b then 1 else 0 : ℝ) : EReal) := by
  rw [word_of_bit]
  by_cases h : a = b
  · subst h; simp [IntOp.cmpi]
  · have h' : (a == b) = false := by simpa using h
    simp [IntOp.cmpi, h, h']

/-- A block of reals as a block of extended reals. -/
def cells (v : Fin 2176 → Fin 32 → ℝ) : FVec Ideal S2176x32 .f32 := fun y => ((v (y 0) (y 1) : ℝ) : EReal)

/-- An entry of the block. -/
theorem cells_ix (v : Fin 2176 → Fin 32 → ℝ) (i : Fin 2176) (l : Fin 32) : cells v (ix2 i l) = ((v i l : ℝ) : EReal) := rfl

/-- What the solve kernel's inputs hold: the row sums, the weights split in three and the labels. The weights
    are told by what they do to a scaled entry: the leading one multiplies it by the padded affinity of `X`, the two
    residues take it to 0. -/
structure Holds (X : Fin 2100 → Fin 768 → EReal) (Y : Fin 2100 → Fin 20 → ℝ) (v0 : Vec Ideal S2176x1 .f32)
    (v7 : Vec Ideal S2176x1 .i32) (W0 W1 W2 : Vec Ideal S2176x2176 .bf16) : Prop where
  sums : ∀ i : Fin 2176, v0 (ix2 i 0) = degP X i
  lead : ∀ (i j : Fin 2176) (t : ℝ), W0 (ix2 i j) * ((dinvP X j * t : ℝ) : EReal) = ((padSq (aff X) i j * (dinvP X j * t) : ℝ) : EReal)
  mid : ∀ (i j : Fin 2176) (t : ℝ), W1 (ix2 i j) * ((dinvP X j * t : ℝ) : EReal) = 0
  low : ∀ (i j : Fin 2176) (t : ℝ), W2 (ix2 i j) * ((dinvP X j * t : ℝ) : EReal) = 0
  labels : ∀ (i : Fin 2176) (l : Fin 32), (if BitVec.ofNat 32 l.val = v7 (ix2 i 0) then 1 else 0 : ℝ) = pad Y i l

/-- The scaling, from the degree. -/
theorem scaling (X : Fin 2100 → Fin 768 → EReal) (i : Fin 2176) :
    Ideal.rsqrt (if degP X i = 0 then 1 else degP X i) = ((dinvP X i : ℝ) : EReal) := by
  have hp := degP1_pos X i
  show Ideal.rsqrt (degP1 X i) = _
  unfold dinvP
  by_cases h : degP1 X i = ⊤
  · rw [h, Ideal.rsqrt_top]
    simp
  · have e := coe_of_nonneg hp.le h
    have hr : 0 < (degP1 X i).toReal := EReal.coe_pos.1 (by rw [e]; exact hp)
    rw [← e, Ideal.rsqrt_coe, if_neg (not_lt.2 hr.le), if_neg hr.ne', EReal.toReal_coe]

variable {X : Fin 2100 → Fin 768 → EReal} {Y : Fin 2100 → Fin 20 → ℝ} {v0 : Vec Ideal S2176x1 .f32}
  {v7 : Vec Ideal S2176x1 .i32} {W0 W1 W2 : Vec Ideal S2176x2176 .bf16}

/-- The outer loop starts from zero. -/
theorem zero_3 : k2_pay3 (F := Ideal) = cells 0 := by
  funext y; idx_vars y; pointwise [k2_pay3]; rfl

/-- So does the inner one. -/
theorem zero_5 : k2_pay5 (F := Ideal) = cells 0 := by
  funext y; idx_vars y; pointwise [k2_pay5]; rfl

/-- The residual of an outer iterate: the residues of the split vectors are zero, and the terms of the split weights'
    residues come to nothing. -/
theorem residual (h : Holds X Y v0 v7 W0 W1 W2) (x : Fin 2176 → Fin 32 → ℝ) :
    k2_pay4 v0 v7 (cells x) W0 W1 W2 = cells (pad Y - sys (padSq (aff X)) (dinvP X) x) := by
  funext y
  idx_vars y
  pointwise [k2_pay4, k2_pay2]
  rw [word_of_eq, h.labels]
  simp only [h.sums, h.lead, h.mid, h.low, scaling, cells_ix, alpha, ← EReal.coe_mul, ← EReal.coe_sub, sub_self]
  simp only [EReal.coe_zero, mul_zero, zero_mul, Finset.sum_const_zero, add_zero]
  simp only [← coe_sum, ← EReal.coe_mul, ← EReal.coe_sub]
  rfl

/-- The residual after one more inner step. -/
theorem step_r (h : Holds X Y v0 v7 W0 W1 W2) (r p : Fin 2176 → Fin 32 → ℝ) :
    k2_pay7 v0 (cells r) (cells p) W0 = cells (r - sys (padSq (aff X)) (dinvP X) p) := by
  funext y
  idx_vars y
  pointwise [k2_pay7, k2_pay2]
  simp only [h.sums, h.lead, scaling, cells_ix, alpha, ← EReal.coe_mul, ← EReal.coe_sub, ← coe_sum]
  rfl

/-- The next step factor. -/
theorem step_rho (k : ℕ) : k2_pay8 (F := Ideal) ((rho k : ℝ) : EReal) = ((rho (k + 1) : ℝ) : EReal) := by
  pointwise [k2_pay8]
  rw [c_five_halves, ← EReal.coe_sub, Ideal.div_coe (rho_den k), one_mul]
  rfl

/-- The next step. -/
theorem step_p (h : Holds X Y v0 v7 W0 W1 W2) (r p : Fin 2176 → Fin 32 → ℝ) (k : ℕ) :
    k2_pay9 v0 (cells r) (cells p) ((rho k : ℝ) : EReal) W0
      = cells ((rho (k + 1) * rho k) • p
          + (2 * rho (k + 1) / (4 / 5)) • (r - sys (padSq (aff X)) (dinvP X) p)) := by
  have h8 := step_rho k
  funext y
  idx_vars y
  pointwise [k2_pay9]
  simp only [h8, step_r h, cells_ix, alpha, c_two, ← EReal.coe_mul]
  rw [Ideal.div_coe (by norm_num), ← EReal.coe_mul, ← EReal.coe_mul, ← EReal.coe_add]
  refine congrArg _ ?_
  simp only [Pi.add_apply, Pi.smul_apply, smul_eq_mul]
  ring

/-- The inner iterate plus the step. -/
theorem step_e (e p : Fin 2176 → Fin 32 → ℝ) : k2_pay6 (F := Ideal) (cells e) (cells p) = cells (e + p) := by
  funext y; idx_vars y; pointwise [k2_pay6]
  rw [cells_ix, cells_ix, ← EReal.coe_add]; rfl

/-- THE INNER LOOP: after `k` trips it carries the update form's iterate, residual and step, and `rho k`. -/
theorem inner_up (h : Holds X Y v0 v7 W0 W1 W2) (x : Fin 2176 → Fin 32 → ℝ) (k : ℕ) :
    (inner v0 W0)^[k] (start v0 v7 W0 W1 W2 (cells x))
      = (cells (up (sys (padSq (aff X)) (dinvP X)) (pad Y - sys (padSq (aff X)) (dinvP X) x) k).1,
         cells (up (sys (padSq (aff X)) (dinvP X)) (pad Y - sys (padSq (aff X)) (dinvP X) x) k).2.1,
         cells (up (sys (padSq (aff X)) (dinvP X)) (pad Y - sys (padSq (aff X)) (dinvP X) x) k).2.2,
         ((rho k : ℝ) : EReal)) := by
  induction k with
  | zero =>
    simp only [Function.iterate_zero, id]
    unfold start
    rw [residual h, zero_5]
    rfl
  | succ k ih =>
    rw [Function.iterate_succ_apply', ih]
    unfold inner
    dsimp only
    rw [step_e, step_r h, step_p h, step_rho]
    rfl

/-- THE OUTER LOOP's trip is the refinement. -/
theorem outer_kref (h : Holds X Y v0 v7 W0 W1 W2) (x : Fin 2176 → Fin 32 → ℝ) :
    outer v0 v7 W0 W1 W2 (cells x) = cells (kref X Y x) := by
  unfold outer
  rw [inner_up h]
  funext y
  idx_vars y
  pointwise [k2_pay10]
  rw [cells_ix, cells_ix, ← EReal.coe_add]
  rfl

/-- Several outer trips are as many refinements. -/
theorem outer_iter (h : Holds X Y v0 v7 W0 W1 W2) (x : Fin 2176 → Fin 32 → ℝ) (k : ℕ) :
    (outer v0 v7 W0 W1 W2)^[k] (cells x) = cells ((kref X Y)^[k] x) := by
  induction k with
  | zero => rfl
  | succ k ih => rw [Function.iterate_succ_apply', Function.iterate_succ_apply', ih, outer_kref h]

/-- THE STATE after the three outer trips is the padded table of scores. -/
theorem solved_eq (h : Holds X Y v0 v7 W0 W1 W2) : solved v0 v7 W0 W1 W2 = cells (pad (scores X Y)) := by
  unfold solved
  rw [zero_3, outer_iter h, kref_scores]

end Cert.KernelIdeal.Value

end
-- ==== Proof.KernelPrep.lean ====
/- What the kernel's host operations lay out before the first and the third call: the padded Gram matrix and the padded
   column of labels. -/
module

public import proofs.«01_k».proof.Proof.Data
public import proofs.«01_k».proof.Proof.SolveValue
public import Idealize.ShloMosaic.Lib.Routing.OpsOne
public import Idealize.ShloMosaic.Lib.Routing.OpsPair

@[expose] public section

noncomputable section

namespace Cert.KernelIdeal.Value

open Idealize.ShloMosaic Idealize.ShloMosaic.TcCoe Idealize.SL.Sem
open Cert.KernelIdeal Cert.KernelIdeal.Gen Cert.Spec Idealize.ShloMosaic.Routing

set_option maxRecDepth 16384

/-- Both start indices are zero. -/
theorem corner : (concatenate S2 0
    [⟨S1, broadcastInDim S1 ![] bcast_S_S1 (constantI S_ 32 0#32)⟩, ⟨S1, broadcastInDim S1 ![] bcast_S_S1 (constantI S_ 32 0#32)⟩]
    concatenates_S1_S1_S2_d0 : IVec S2 32) = fun _ => 0#32 := by
  funext y
  fin_cases y <;> rfl

/-- The stacked features. -/
theorem stacked (x0 : FVec Ideal S100x768 .f32) (x2 : FVec Ideal S2000x768 .f32) (a : Fin 100 → Fin 768 → EReal) (q : Fin 2000 → Fin 768 → EReal)
    (h0 : ∀ i k, x0 (ix2 i k) = a i k) (h2 : ∀ i k, x2 (ix2 i k) = q i k) (i : Fin 2100) (k : Fin 768) :
    concatenate S2100x768 0 [⟨S100x768, x0⟩, ⟨S2000x768, x2⟩] concatenates_S100x768_S2000x768_S2100x768_d0 (ix2 i k)
      = stack a q i k := by
  pointwise []
  unfold stack
  split
  · exact h0 _ _
  · exact h2 _ _

/-- The inner products of the stacked features. -/
theorem gram_ix (x : FVec Ideal S2100x768 .f32) (X : Fin 2100 → Fin 768 → EReal) (h : ∀ i k, x (ix2 i k) = X i k) (i j : Fin 2100) :
    Host.dotGeneral dot_S2100x768_S768x2100_S2100x2100_1_0_0_1_n_n none x
      (transpose S768x2100 [1, 0] x transposes_S2100x768_S768x2100_1_0) (ix2 i j) = gram X i j := by
  pointwise []
  simp only [h]
  rfl

/-- The square is written from the corner on, -/
theorem window_start (k : S2100x2100.Idx) (a : Fin 2) :
    scatter_S2176x2176_S2_S2100x2100_01_n_01_0.start k (fun _ => 0#32) a = 0 := by
  unfold ScatterDims.start
  split <;> rfl

/-- each entry at its own place. -/
theorem window_at (k : S2100x2100.Idx) (a : Fin 2) :
    scatter_S2176x2176_S2_S2100x2100_01_n_01_0.window k a = (k a).val := by
  fin_cases a <;> rfl

/-- A square of 2100 rows written into zeros is the padded square. -/
theorem gram_padded (u : FVec Ideal S2100x2100 .f32) (G : Fin 2100 → Fin 2100 → EReal) (h : ∀ i j, u (ix2 i j) = G i j)
    (i j : Fin 2176) :
    Host.scatter scatter_S2176x2176_S2_S2100x2100_01_n_01_0 (fun _ b => b)
      (broadcastInDim S2176x2176 ![] bcast_S_S2176x2176 (constant (F := Ideal) S_ .f32 0#32)) (fun _ => 0#32) u (ix2 i j)
      = padSq G i j := by
  have lands : ∀ k : S2100x2100.Idx, scatter_S2176x2176_S2_S2100x2100_01_n_01_0.resultIdx? k (fun _ => 0#32) = some (ix2 i j)
      ↔ (k 0).val = i.val ∧ (k 1).val = j.val := fun k => by
    refine (resultIdx?_ix2 _ k _ i j).trans ?_
    rw [window_start, window_start, window_at, window_at]
    omega
  by_cases hi : i.val < 2100
  · by_cases hj : j.val < 2100
    · rw [scatter_set_hit _ _ _ _ _ (padSq G i j) (fun k hk => ?_) (ix2 ⟨i.val, hi⟩ ⟨j.val, hj⟩) ((lands _).2 ⟨rfl, rfl⟩)]
      obtain ⟨k0, k1⟩ := (lands k).1 hk
      have e : k = ix2 ⟨i.val, hi⟩ ⟨j.val, hj⟩ := by
        rw [eq_ix2 k]
        exact congrArg₂ ix2 (Fin.ext k0) (Fin.ext k1)
      rw [e, h]
      unfold padSq
      rw [dif_pos ⟨hi, hj⟩]
    · rw [scatter_set_miss _ _ _ _ _ fun k hk => hj (by have := ((lands k).1 hk).2; have q : (k 1).val < 2100 := (k 1).isLt; omega)]
      unfold padSq
      rw [dif_neg (fun q => hj q.2)]
      exact Ideal.ofBits_zero_f32
  · rw [scatter_set_miss _ _ _ _ _ fun k hk => hi (by have := ((lands k).1 hk).1; have q : (k 0).val < 2100 := (k 0).isLt; omega)]
    unfold padSq
    rw [dif_neg (fun q => hi q.1)]
    exact Ideal.ofBits_zero_f32

/-- The labels written into a column of -1. -/
theorem labels_padded (u : IVec S100 32) (lab : Fin 100 → BitVec 32) (h : ∀ i, u (ix1 i) = lab i) (i : Fin 2176) :
    Host.scatter scatter_S2176x1_S2_S100_0_1_01_0 (fun _ b => b)
      (broadcastInDim S2176x1 ![] bcast_S_S2176x1 (constantI S_ 32 4294967295#32)) (fun _ => 0#32) u (ix2 i 0)
      = if h : i.val < 100 then lab ⟨i.val, h⟩ else 4294967295#32 := by
  rw [scatter_column_signed scatter_S2176x1_S2_S100_0_1_01_0 (by decide) rfl rfl rfl]
  have e1 : ((ix2 i 0 : S2176x1.Idx) 1).val = 0 := rfl
  have e0 : ((ix2 i 0 : S2176x1.Idx) 0).val = i.val := rfl
  have z : (0#32 : BitVec 32).toInt = 0 := rfl
  by_cases hi : i.val < 100
  · rw [if_pos ⟨by rw [e1, z]; rfl, by rw [e0, z]; omega, by rw [e0, z]; push_cast; omega⟩, dif_pos hi, ← h]
    refine congrArg (fun t => u (ix1 t)) (Fin.ext ?_)
    show (((ix2 i 0 : S2176x1.Idx) 0).val - (0#32 : BitVec 32).toInt).toNat % 100 = i.val
    rw [e0, z]
    omega
  · rw [if_neg (by rw [e0, z]; push_cast; omega), dif_neg hi]
    rfl

end Cert.KernelIdeal.Value

end
-- ==== Proof.ThreshValue.lean ====
/- The threshold kernel over the extended reals: a row's 21 rounds are those of `Threshold.St`, so the word it leaves
   for a row is at most a value exactly if fewer than 21 of the row's positive parts exceed the value. -/
module

public import proofs.«01_k».proof.Proof.Gen.KernelIdeal.Frame
public import proofs.«01_k».proof.Proof.Threshold
public import proofs.«01_k».proof.Proof.Consts
public import Idealize.ShloMosaic.Lib.Pipeline.ValueKit
public import Idealize.ShloMosaic.Lib.Pointwise

@[expose] public section

noncomputable section

namespace Cert.KernelIdeal.Value

open Idealize.ShloMosaic Idealize.ShloMosaic.TcCoe Idealize.SL.Sem
open Cert.KernelIdeal Cert.KernelIdeal.Gen Cert.Threshold Cert.Consts

set_option maxRecDepth 16384

/-- What the rounds carry: the rows, the numbers of entries struck out, the thresholds. -/
abbrev Rounds := FVec Ideal S128x2176 .f32 × IVec S128x1 32 × FVec Ideal S128x1 .f32

/-- One round. -/
def round (a : Rounds) : Rounds := (k0_pay8 a.1, k0_pay7 a.1 a.2.1, k0_pay6 a.1 a.2.1 a.2.2)

/-- Row `r` of the carried blocks holds the state `s`. -/
def Rel (r : Fin 128) (a : Rounds) (s : St 2176) : Prop :=
  (∀ j, a.1 (ix2 r j) = s.row j) ∧ (∀ u : Fin 1, a.2.1 (ix2 r u) = BitVec.ofNat 32 s.cnt) ∧ ∀ u : Fin 1, a.2.2 (ix2 r u) = s.thr

/-- The sum of bits, read as words, is the number of ones. -/
theorem count_bits {n : ℕ} (P : Fin n → Prop) [DecidablePred P] (t : Finset (Fin n)) :
    t.fold IntOp.addi (0#32) (fun x => BitVec.setWidth 32 (BitVec.ofBool (decide (P x)))) = BitVec.ofNat 32 (t.filter P).card := by
  classical
  induction t using Finset.induction_on with
  | empty => rfl
  | insert a t ha ih =>
    rw [Finset.fold_insert ha, ih, Finset.filter_insert]
    by_cases h : P a
    · rw [if_pos h, Finset.card_insert_of_notMem (fun e => ha (Finset.mem_filter.1 e).1)]
      simp [IntOp.addi, h, Nat.add_comm]
      rw [← BitVec.ofNat_add, Nat.add_comm]
    · rw [if_neg h]
      simp [IntOp.addi, h]

/-- A round takes a row from one state to the next. -/
theorem round_rel (r : Fin 128) (a : Rounds) (s : St 2176) (h : Rel r a s) (hc : s.cnt < 2 ^ 31) :
    Rel r (round a) (s.next 21) := by
  obtain ⟨h1, h2, h3⟩ := h
  refine ⟨fun j => ?_, fun u => ?_, fun u => ?_⟩
  · unfold round
    dsimp only
    pointwise [k0_pay8, k0_pay5, k0_pay4]
    simp only [h1, c_neg_inf, c_neg_one]
    rfl
  · unfold round
    dsimp only
    pointwise [k0_pay7, k0_pay5, k0_pay4]
    rw [count_bits]
    simp only [h1, h2, c_neg_inf]
    rw [IntOp.addi, ← BitVec.ofNat_add]
    rfl
  · unfold round
    dsimp only
    pointwise [k0_pay6, k0_pay5, k0_pay4]
    simp only [h1, h2, h3, c_neg_inf]
    have hb : IntOp.cmpi CmpIPredicate.slt (BitVec.ofNat 32 s.cnt) 21#32 = BitVec.ofBool (decide (s.cnt < 21)) := by
      have e1 : (BitVec.ofNat 32 s.cnt).toInt = s.cnt := by
        rw [BitVec.toInt_eq_toNat_cond, BitVec.toNat_ofNat, Nat.mod_eq_of_lt (by omega), if_pos (by omega)]
      have e2 : (21#32 : BitVec 32).toInt = 21 := by decide
      simp only [IntOp.cmpi, BitVec.slt, e1, e2]
      refine congrArg _ (decide_eq_decide.2 ?_)
      omega
    rw [hb]
    by_cases hlt : s.cnt < 21
    · simp [hlt, Scalar.select, St.next, top]
    · simp [hlt, Scalar.select, St.next, top]

/-- Rounds take it as many states on. -/
theorem rounds_rel (r : Fin 128) (h : Fin 2176 → EReal) (thr : EReal) (a : Rounds) (ha : Rel r a ⟨h, 0, thr⟩) (t : ℕ) (ht : t ≤ 21) :
    Rel r (round^[t] a) ((St.next 21)^[t] ⟨h, 0, thr⟩) := by
  induction t with
  | zero => exact ha
  | succ t ih =>
    rw [Function.iterate_succ_apply', Function.iterate_succ_apply']
    refine round_rel r _ _ (ih (by omega)) (lt_of_le_of_lt (cnt_le 21 h thr t) ?_)
    omega

/-- A fold that ignores its index is an iterate. -/
theorem foldl_iterate {α : Type} {n : ℕ} (f : α → α) (a : α) :
    (List.finRange n).foldl (fun acc _ => f acc) a = f^[n] a := by
  rw [List.foldl_const, List.length_finRange]

/-- THE THRESHOLD of row `r` of a block. -/
theorem thresh_selects (c : Dev nD) (i : grid0.Coords) (a1 : Memref sig .tc .vmem S128x2176 .f32) (h1 : a1.IsWhole)
    (a2 : Memref sig .tc .vmem S128x1 .f32) (h2 : a2.IsWhole) (x0 : Vec Ideal S128x2176 .f32) (r : Fin 128) (u : Fin 1) (v : EReal) :
    out0_A_1 c i a1 h1 a2 h2 x0 (ix2 r u) ≤ v ↔ above (fun j : Fin 2176 => max (x0 (ix2 r j)) 0) v < 21 := by
  frame_out
  have hf : ∀ (n : ℕ) (g : Fin n → Rounds → Rounds) (hn : n = 21) (hg : ∀ k a, g k a = round a) (a : Rounds),
      Scf.fold g a = round^[21] a := by
    intro n g hn hg a
    subst hn
    rw [Scf.fold_eq, ← foldl_iterate (n := 21) round a]
    exact congrArg (fun f => List.foldl f a (List.finRange 21)) (funext fun acc => funext fun k => hg k acc)
  rw [hf _ (fun _ (a : Rounds) => (k0_pay8 a.1, k0_pay7 a.1 a.2.1, k0_pay6 a.1 a.2.1 a.2.2)) (by decide +kernel) (fun _ _ => rfl)]
  have hrel : Rel r ((k0_pay1 x0, k0_pay2, k0_pay3) : Rounds) ⟨fun j => max (x0 (ix2 r j)) 0, 0, 0⟩ := by
    refine ⟨fun j => ?_, fun u => ?_, fun u => ?_⟩
    · pointwise [k0_pay1]
    · rfl
    · pointwise [k0_pay3]
  rw [(rounds_rel r _ _ _ hrel 21 le_rfl).2.2 u]
  exact rounds_selects 21 (by omega) (by omega) _ (fun j => le_max_right _ _) _ _

end Cert.KernelIdeal.Value

end
-- ==== Proof.AffinityValue.lean ====
/- The affinity kernel over the extended reals: from the Gram rows and columns of a block of 128 rows and the
   thresholds it leaves the padded affinity matrix as the leading weight, what is left of it as the two residues, and the
   row sums. -/
module

public import proofs.«01_k».proof.Proof.SolveValue

@[expose] public section

noncomputable section

namespace Cert.KernelIdeal.Value

open Idealize.ShloMosaic Idealize.ShloMosaic.TcCoe Idealize.SL.Sem
open Cert.KernelIdeal Cert.KernelIdeal.Gen Cert.Spec Cert.Threshold

set_option maxRecDepth 16384

/-- Row `r` of block `k`. -/
abbrev rowAt (k : ℕ) (hk : k < 17) (r : Fin 128) : Fin 2176 := ⟨128 * k + r.val, by omega⟩

/-- What a block of the affinity kernel's inputs holds. -/
structure Blocks (X : Fin 2100 → Fin 768 → EReal) (k : ℕ) (hk : k < 17) (x0 x1 : Vec Ideal S128x2176 .f32) (x2 : Vec Ideal S128x1 .f32)
    (x3 : Vec Ideal S1x2176 .f32) : Prop where
  rows : ∀ (r : Fin 128) (j : Fin 2176), x0 (ix2 r j) = gramP X (rowAt k hk r) j
  cols : ∀ (r : Fin 128) (j : Fin 2176), x1 (ix2 r j) = gramP X j (rowAt k hk r)
  thrRow : ∀ (r : Fin 128) (v : EReal), x2 (ix2 r 0) ≤ v ↔ above (fun j => max (gramP X (rowAt k hk r) j) 0) v < 21
  thrCol : ∀ (j : Fin 2176) (v : EReal), x3 (ix2 0 j) ≤ v ↔ above (fun l => max (gramP X j l) 0) v < 21

variable {X : Fin 2100 → Fin 768 → EReal} {x0 x1 : Vec Ideal S128x2176 .f32} {x2 : Vec Ideal S128x1 .f32} {x3 : Vec Ideal S1x2176 .f32}
  (i : grid1.Coords)

/-- A masked cube, as the kernel multiplies it out. -/
theorem masked (a b : Fin 2176) (thr : EReal)
    (hthr : ∀ v : EReal, thr ≤ v ↔ above (fun j => max (gramP X a j) 0) v < 21) :
    FloatOps.sitofp (F := Ideal) FTy.f32 (BitVec.setWidth 32 (BitVec.ofBool (decide (thr ≤ gramP X a b))))
        * (max (gramP X a b) 0 * max (gramP X a b) 0 * max (gramP X a b) 0)
      = padSq (cube X) a b := by
  rw [word_of_bit, ← cubeP_eq X a b thr hthr]
  by_cases h : thr ≤ gramP X a b
  · simp [h]
  · simp [h]

/-- A block of the weights is the padded affinity at its rows. -/
theorem weight_eq (h : Blocks X (i 0).val (i 0).isLt x0 x1 x2 x3) (r : Fin 128) (j : Fin 2176) :
    k1_pay3 i x0 x1 x2 x3 (ix2 r j) = padSq (affE X) (rowAt (i 0).val (i 0).isLt r) j := by
  pointwise [k1_pay3]
  rw [h.rows, h.cols, masked _ _ _ (h.thrRow r), masked _ _ _ (h.thrCol j), ← affP_eq]
  have hi : (i 0).val < 17 := (i 0).isLt
  have hw : IntOp.addi (Scalar.muli (BitVec.ofNat 32 (i 0).val) 128#32) (BitVec.ofNat 32 r.val)
      = BitVec.ofNat 32 (rowAt (i 0).val (i 0).isLt r).val := by
    apply BitVec.eq_of_toNat_eq
    simp only [IntOp.addi, Scalar.muli, IntOp.muli, BitVec.toNat_add, BitVec.toNat_mul, BitVec.toNat_ofNat]
    omega
  rw [hw]
  by_cases e : rowAt (i 0).val (i 0).isLt r = j
  · rw [if_pos e, e]
    simp [IntOp.cmpi, Scalar.select]
  · rw [if_neg e]
    have hne : (BitVec.ofNat 32 (rowAt (i 0).val (i 0).isLt r).val == BitVec.ofNat 32 j.val) = false := by
      rw [beq_eq_false_iff_ne]
      intro hc
      have := congrArg BitVec.toNat hc
      rw [BitVec.toNat_ofNat, BitVec.toNat_ofNat, Nat.mod_eq_of_lt (by omega), Nat.mod_eq_of_lt (by omega)] at this
      exact e (Fin.ext this)
    simp [IntOp.cmpi, Scalar.select, hne]

/-- The leading weight is the affinity itself. -/
theorem lead_eq (h : Blocks X (i 0).val (i 0).isLt x0 x1 x2 x3) (r : Fin 128) (j : Fin 2176) :
    out1_4 i x0 x1 x2 x3 (ix2 r j) = padSq (affE X) (rowAt (i 0).val (i 0).isLt r) j := by
  frame_out
  pointwise [k1_pay4]
  exact weight_eq i h r j

/-- The middle weight is what is left of the affinity after its leading part. -/
theorem mid_eq (h : Blocks X (i 0).val (i 0).isLt x0 x1 x2 x3) (r : Fin 128) (j : Fin 2176) :
    out1_5 i x0 x1 x2 x3 (ix2 r j) = padSq (affE X) (rowAt (i 0).val (i 0).isLt r) j - padSq (affE X) (rowAt (i 0).val (i 0).isLt r) j := by
  frame_out
  pointwise [k1_pay6, k1_pay5, k1_pay4]
  rw [weight_eq i h r j]

/-- The lowest weight is what is left of that. -/
theorem low_eq (h : Blocks X (i 0).val (i 0).isLt x0 x1 x2 x3) (r : Fin 128) (j : Fin 2176) :
    out1_6 i x0 x1 x2 x3 (ix2 r j)
      = padSq (affE X) (rowAt (i 0).val (i 0).isLt r) j - padSq (affE X) (rowAt (i 0).val (i 0).isLt r) j
        - (padSq (affE X) (rowAt (i 0).val (i 0).isLt r) j - padSq (affE X) (rowAt (i 0).val (i 0).isLt r) j) := by
  frame_out
  pointwise [k1_pay1, k1_pay7, k1_pay6, k1_pay5, k1_pay4]
  rw [weight_eq i h r j]

/-- The row sums are the padded degrees. -/
theorem sums_eq (h : Blocks X (i 0).val (i 0).isLt x0 x1 x2 x3) (r : Fin 128) (u : Fin 1) :
    out1_7 i x0 x1 x2 x3 (ix2 r u) = degP X (rowAt (i 0).val (i 0).isLt r) := by
  frame_out
  pointwise [k1_pay2]
  simp only [weight_eq i h]
  rfl

end Cert.KernelIdeal.Value

end
-- ==== Proof.Results.lean ====
/- The three results, from a table of scores: a row's probabilities, the greatest positive score and the least column
   that attains it; and the two programs' ways of spelling each (32 columns against 20, the argument of the greatest
   score against that of the greatest probability). -/
module

public import proofs.«01_k».proof.Proof.Spec
public import proofs.«01_k».proof.Proof.Consts
public import Idealize.ShloMosaic.Lib.Pointwise

@[expose] public section

noncomputable section

namespace Cert.Spec

open Idealize.ShloMosaic Cert.Consts

variable (s : Fin 2100 → Fin 20 → ℝ)

/-- The positive part of a score. -/
def zpos (i : Fin 2100) (l : Fin 20) : ℝ := max (s i l) 0

/-- A clipped score is not negative. -/
theorem zpos_nonneg (i : Fin 2100) (l : Fin 20) : 0 ≤ zpos s i l := le_max_right _ _

/-- A column is best when no other exceeds it, and it is the least such. -/
def IsBest (i : Fin 2100) (b : Fin 20) : Prop :=
  (∀ j, zpos s i j ≤ zpos s i b) ∧ ∀ l, (∀ j, zpos s i j ≤ zpos s i l) → b ≤ l

/-- Some class is the least of those with the greatest score. -/
theorem exists_best (i : Fin 2100) : ∃ b, IsBest s i b := by
  classical
  obtain ⟨b, hb⟩ := Finite.exists_max (zpos s i)
  have hne : (Finset.univ.filter fun l => ∀ j, zpos s i j ≤ zpos s i l).Nonempty := ⟨b, by simpa using hb⟩
  refine ⟨Finset.min' _ hne, ?_, fun l hl => Finset.min'_le _ _ (by simpa using hl)⟩
  have := Finset.min'_mem _ hne
  simpa using this

/-- The least column that attains a row's greatest positive score. -/
def best (i : Fin 2100) : Fin 20 := (exists_best s i).choose

/-- `best` is that class. -/
theorem best_spec (i : Fin 2100) : IsBest s i (best s i) := (exists_best s i).choose_spec

/-- A row's total, at least `eps`. -/
def total (i : Fin 2100) : ℝ := max (∑ l, zpos s i l) eps

/-- A total is positive. -/
theorem total_pos (i : Fin 2100) : 0 < total s i := lt_of_lt_of_le eps_pos (le_max_right _ _)

/-- A probability. -/
def prob (i : Fin 2100) (l : Fin 20) : ℝ := zpos s i l / total s i

/-! ## Folds -/

/-- The greatest entry is any entry that no other exceeds. -/
theorem fold_max_eq {n : ℕ} (f : Fin n → EReal) (b : Fin n) (hb : ∀ j, f j ≤ f b) : Finset.univ.fold max ⊥ f = f b := by
  refine le_antisymm ((Finset.fold_max_le _).2 ⟨bot_le, fun j _ => hb j⟩) ?_
  exact (Finset.le_fold_max _).2 (Or.inr ⟨b, Finset.mem_univ _, le_rfl⟩)

/-- An entry is the greatest if and only if no other exceeds it. -/
theorem eq_fold_max {n : ℕ} (f : Fin n → EReal) (l : Fin n) : f l = Finset.univ.fold max ⊥ f ↔ ∀ j, f j ≤ f l := by
  constructor
  · intro h j
    rw [h]
    exact (Finset.le_fold_max _).2 (Or.inr ⟨j, Finset.mem_univ _, le_rfl⟩)
  · intro h; exact (fold_max_eq f l h).symm

/-- The lesser of two words, read with its sign. -/
theorem toInt_minsi (a b : BitVec 32) : (IntOp.minsi a b).toInt = min a.toInt b.toInt := by
  unfold IntOp.minsi
  by_cases h : a.toInt < b.toInt
  · rw [min_eq_left h.le]; simp [BitVec.slt, h]
  · rw [min_eq_right (not_lt.1 h)]
    by_cases h' : a.toInt = b.toInt
    · simp [BitVec.slt, h']
    · simp [BitVec.slt, h]

/-- A small number read with its sign is itself. -/
theorem toInt_small (k : ℕ) (hk : k < 64) : (BitVec.ofNat 32 k).toInt = k := by
  rw [BitVec.toInt_eq_toNat_cond, BitVec.toNat_ofNat, Nat.mod_eq_of_lt (by omega), if_pos (by omega)]

/-- The least of the columns that hold `P`, others reading as a number past the last. -/
theorem fold_min_eq {n N : ℕ} (hn : n ≤ N) (hN : N < 64) (P : Fin n → Prop) [DecidablePred P] (b : Fin n) (hb : P b)
    (hmin : ∀ l, P l → b ≤ l) :
    Finset.univ.fold IntOp.minsi 2147483647#32 (fun l : Fin n => if P l then BitVec.ofNat 32 l.val else BitVec.ofNat 32 N)
      = BitVec.ofNat 32 b.val := by
  have hv : ∀ k : ℕ, k ≤ N → (BitVec.ofNat 32 k).toInt = k := fun k hk => toInt_small k (by omega)
  have hbn := b.isLt
  apply BitVec.eq_of_toInt_eq
  rw [← Finset.fold_hom (op' := min) (m := BitVec.toInt) toInt_minsi, hv b.val (by omega)]
  refine le_antisymm ?_ ?_
  · refine (Finset.fold_min_le _).2 (Or.inr ⟨b, Finset.mem_univ _, ?_⟩)
    rw [if_pos hb, hv b.val (by omega)]
  · refine (Finset.le_fold_min _).2 ⟨?_, fun l _ => ?_⟩
    · have : ((2147483647#32 : BitVec 32)).toInt = 2147483647 := by decide
      refine le_trans ?_ (le_of_eq this.symm)
      omega
    · have hln := l.isLt
      split
      · rename_i h
        rw [hv l.val (by omega)]
        exact_mod_cast hmin l h
      · rw [hv N le_rfl]; omega

/-! ## The kernel's spelling: 32 columns, the last 12 zero -/

variable (i : Fin 2100)

/-- A padded row's positive parts. -/
def zrow (l : Fin 32) : ℝ := if h : l.val < 20 then zpos s i ⟨l.val, h⟩ else 0

/-- A clipped row of the padded scores. -/
theorem zrow_pad (r : Fin 2176) (h : r.val < 2100) (l : Fin 32) :
    max ((pad s r l : ℝ) : EReal) 0 = ((zrow s ⟨r.val, h⟩ l : ℝ) : EReal) := by
  rw [← EReal.coe_zero, ← coe_max]
  refine congrArg _ ?_
  unfold pad zrow zpos
  by_cases hl : l.val < 20
  · rw [dif_pos ⟨h, hl⟩, dif_pos hl]
  · rw [dif_neg (fun e => hl e.2), dif_neg hl, max_self]

/-- Its first 20 columns are the clipped scores. -/
theorem zrow_of_lt (l : Fin 32) (h : l.val < 20) : zrow s i l = zpos s i ⟨l.val, h⟩ := dif_pos h

/-- No column of it exceeds the best class. -/
theorem zrow_best (j : Fin 32) : zrow s i j ≤ zrow s i ⟨(best s i).val, by omega⟩ := by
  rw [zrow_of_lt s i ⟨(best s i).val, by omega⟩ (best s i).isLt]
  unfold zrow; split
  · exact (best_spec s i).1 _
  · exact zpos_nonneg s i _

/-- Its greatest entry is the score of the best class. -/
theorem zrow_max : Finset.univ.fold max ⊥ (fun l => ((zrow s i l : ℝ) : EReal)) = ((zpos s i (best s i) : ℝ) : EReal) := by
  rw [fold_max_eq _ (⟨(best s i).val, by omega⟩ : Fin 32) fun j => EReal.coe_le_coe_iff.2 (zrow_best s i j)]
  rw [zrow_of_lt s i _ (best s i).isLt]

/-- Its sum is that of the 20 clipped scores. -/
theorem zrow_sum : ∑ l, ((zrow s i l : ℝ) : EReal) = ((∑ l, zpos s i l : ℝ) : EReal) := by
  rw [← coe_sum, sum_pad32 _ fun j hj => by unfold zrow; rw [dif_neg (by omega)]]
  refine congrArg _ (Finset.sum_congr rfl fun l _ => ?_)
  rw [zrow_of_lt s i _ l.isLt]

/-- The least column among its greatest is the best class. -/
theorem zrow_least :
    Finset.univ.fold IntOp.minsi 2147483647#32
        (fun l : Fin 32 => if ((zrow s i l : ℝ) : EReal) = Finset.univ.fold max ⊥ (fun l => ((zrow s i l : ℝ) : EReal))
          then BitVec.ofNat 32 l.val else 32#32)
      = BitVec.ofNat 32 (best s i).val := by
  classical
  have h := fold_min_eq (n := 32) (N := 32) (by omega) (by omega)
    (fun l => ((zrow s i l : ℝ) : EReal) = Finset.univ.fold max ⊥ (fun l => ((zrow s i l : ℝ) : EReal)))
    (⟨(best s i).val, by omega⟩ : Fin 32)
    ((eq_fold_max _ _).2 fun j => EReal.coe_le_coe_iff.2 (zrow_best s i j)) ?_
  · convert h
  · intro l hl
    have hl' := fun j => EReal.coe_le_coe_iff.1 ((eq_fold_max (fun l => ((zrow s i l : ℝ) : EReal)) l).1 hl j)
    by_cases h20 : l.val < 20
    · have := (best_spec s i).2 ⟨l.val, h20⟩ fun j => by
        have := hl' ⟨j.val, by omega⟩
        rwa [zrow_of_lt s i _ h20, zrow_of_lt s i ⟨j.val, by omega⟩ j.isLt] at this
      exact this
    · have := (best s i).isLt
      exact Fin.le_def.2 (by simp only; omega)

/-! ## The reference's spelling: the greatest probability -/

/-- A probability is not negative. -/
theorem prob_nonneg (l : Fin 20) : 0 ≤ prob s i l := div_nonneg (zpos_nonneg s i l) (total_pos s i).le

/-- Probabilities are ordered as the clipped scores. -/
theorem prob_le (j l : Fin 20) : prob s i j ≤ prob s i l ↔ zpos s i j ≤ zpos s i l :=
  div_le_div_iff_of_pos_right (total_pos s i)

/-- The least class among those with the greatest probability is the best class. -/
theorem prob_least :
    Finset.univ.fold IntOp.minsi 2147483647#32
        (fun l : Fin 20 => if ((prob s i l : ℝ) : EReal) = Finset.univ.fold max ⊥ (fun l => ((prob s i l : ℝ) : EReal))
          then BitVec.ofNat 32 l.val else 20#32)
      = BitVec.ofNat 32 (best s i).val := by
  classical
  have h := fold_min_eq (n := 20) (N := 20) (by omega) (by omega)
    (fun l => ((prob s i l : ℝ) : EReal) = Finset.univ.fold max ⊥ (fun l => ((prob s i l : ℝ) : EReal)))
    (best s i)
    ((eq_fold_max _ _).2 fun j => EReal.coe_le_coe_iff.2 ((prob_le s i _ _).2 ((best_spec s i).1 j))) ?_
  · convert h
  · intro l hl
    exact (best_spec s i).2 l fun j => (prob_le s i _ _).1 (EReal.coe_le_coe_iff.1 ((eq_fold_max (fun l => ((prob s i l : ℝ) : EReal)) l).1 hl j))

/-- The greatest of a row of clipped scores is that of the best class. -/
theorem zpos_max : Finset.univ.fold max ⊥ (fun l => ((zpos s i l : ℝ) : EReal)) = ((zpos s i (best s i) : ℝ) : EReal) :=
  fold_max_eq _ (best s i) fun j => EReal.coe_le_coe_iff.2 ((best_spec s i).1 j)

end Cert.Spec

end
-- ==== Proof.SolveEnd.lean ====
/- The solve kernel's three outputs, from the padded table of scores it ends with, at the rows of the 2100 features. -/
module

public import proofs.«01_k».proof.Proof.SolveValue
public import proofs.«01_k».proof.Proof.Results

@[expose] public section

noncomputable section

namespace Cert.KernelIdeal.Value

open Idealize.ShloMosaic Idealize.ShloMosaic.TcCoe Idealize.SL.Sem
open Cert.KernelIdeal Cert.KernelIdeal.Gen Cert.Spec Cert.Consts

set_option maxRecDepth 16384

variable (s : Fin 2100 → Fin 20 → ℝ) (r : Fin 2176) (h : r.val < 2100)

include h

/-- The probabilities. -/
theorem end_probs (l : Fin 32) (hl : l.val < 20) :
    k2_pay14 (cells (pad s)) (ix2 r l) = ((prob s ⟨r.val, h⟩ ⟨l.val, hl⟩ : ℝ) : EReal) := by
  pointwise [k2_pay14, k2_pay11]
  simp only [cells_ix, zrow_pad s r h, c_eps]
  rw [zrow_sum, ← coe_max, zrow_of_lt s _ l hl]
  exact (Ideal.div_coe (total_pos s ⟨r.val, h⟩).ne' _).trans (by rw [← EReal.coe_mul, mul_one_div]; rfl)

/-- The negated greatest score. -/
theorem end_amax (u : Fin 1) :
    k2_pay13 (cells (pad s)) (ix2 r u) = ((-zpos s ⟨r.val, h⟩ (best s ⟨r.val, h⟩) : ℝ) : EReal) := by
  pointwise [k2_pay13, k2_pay12, k2_pay11]
  simp only [cells_ix, zrow_pad s r h, c_neg_inf]
  rw [zrow_max, ← EReal.coe_zero, ← EReal.coe_sub, zero_sub]

/-- The label. -/
theorem end_label (u : Fin 1) :
    k2_pay1 (k2_pay15 (cells (pad s))) (ix2 r u) = BitVec.ofNat 32 (best s ⟨r.val, h⟩).val := by
  pointwise [k2_pay1, k2_pay15, k2_pay12, k2_pay11]
  simp only [cells_ix, zrow_pad s r h, c_neg_inf]
  exact zrow_least s _

end Cert.KernelIdeal.Value

end
-- ==== Proof.KernelCalls.lean ====
/- What the three calls of the kernel leave in their result arrays, from what their operand arrays hold on entry. -/
module

public import proofs.«01_k».proof.Proof.ThreshValue
public import proofs.«01_k».proof.Proof.AffinityValue
public import proofs.«01_k».proof.Proof.SolveEnd

@[expose] public section

noncomputable section

namespace Cert.KernelIdeal.Value

open Idealize.ShloMosaic Idealize.ShloMosaic.TcCoe Idealize.SL.Sem
open Cert.KernelIdeal Cert.KernelIdeal.Gen Cert.Spec Cert.Threshold

set_option maxRecDepth 16384

variable (V : (c : Dev nD) → (b : Ref sig .tc) → Buf (Elt Ideal) ((c : Thread nD τ).loc b)) (c : Dev nD)
  (X : Fin 2100 → Fin 768 → EReal)

/-- The first call takes and leaves the row block of its number. -/
theorem idx0 : ∀ t : Fin cfg0.N, win0_0.index t = ![t.val, 0] ∧ win0_1.index t = ![t.val, 0] :=
  (by decide +kernel : ∀ t : Fin grid0.N, _)

/-- The second call takes and leaves the row blocks of its number, and the thresholds of the columns whole. -/
theorem idx1 : ∀ t : Fin cfg1.N, win1_0.index t = ![(grid1.coords t 0).val, 0] ∧ win1_1.index t = ![(grid1.coords t 0).val, 0] ∧ win1_2.index t = ![(grid1.coords t 0).val, 0]
    ∧ win1_3.index t = ![0, 0] ∧ win1_4.index t = ![(grid1.coords t 0).val, 0] ∧ win1_5.index t = ![(grid1.coords t 0).val, 0] ∧ win1_6.index t = ![(grid1.coords t 0).val, 0]
    ∧ win1_7.index t = ![(grid1.coords t 0).val, 0] :=
  (by decide +kernel : ∀ t : Fin grid1.N, _)

/-- `x` is the 21st greatest of the relu of row `i` of the padded Gram matrix, told by the bounds it is under. -/
def Selects (i : Fin 2176) (x : EReal) : Prop := ∀ v : EReal, x ≤ v ↔ above (fun j => max (gramP X i j) 0) v < 21

/-- A block of the first call's operand is its rows of the padded Gram matrix. -/
theorem row0 (t : Fin cfg0.N) (r : Fin 128) (j : Fin 2176) :
    (iblk0 V c 0 t : Vec Ideal S128x2176 .f32) (ix2 r j) = (V c main_v7 : FVec Ideal S2176x2176 .f32) (ix2 (rowAt t.val t.isLt r) j) := by
  blk_simp [iblk0]
  refine congrArg (V c main_v7) ?_
  blk_ext [idx0 t]

/-- What a point of the first call leaves for a row selects as the threshold of the row. -/
theorem thresh_at (hg : ∀ i j : Fin 2176, (V c main_v7 : FVec Ideal S2176x2176 .f32) (ix2 i j) = gramP X i j)
    (t : Fin cfg0.N) (r : Fin 128) (u : Fin 1) : Selects X (rowAt t.val t.isLt r) (outsAt0 V c t (ix2 r u)) := by
  intro v
  unfold outsAt0
  rw [thresh_selects]
  simp only [row0, hg]

/-- Where a block of the first call's result lies. -/
theorem place0 (t : Fin cfg0.N) (y : S128x1.Idx) :
    ((win0_1.blk t).view.emb y : S2176x1.Idx) = ix2 (rowAt t.val t.isLt (y 0)) (y 1) := by blk_ext [idx0 t]

/-- The thresholds the first call leaves. -/
theorem thresholds (hg : ∀ i j : Fin 2176, (V c main_v7 : FVec Ideal S2176x2176 .f32) (ix2 i j) = gramP X i j)
    (i : S2176x1.Idx) : Selects X (i 0) (((dat0 V c).arrAt 1 cfg0.N : FVec Ideal S2176x1 .f32) i) := by
  refine (dat0 V c).arrAt_forall_of_covers 1 (fun i x => Selects X (i 0) x) (by decide +kernel) (fun t hf y => ?_) i
  blk_simp
  rw [after0_1, place0]
  have h := thresh_at V c X hg t (y 0) (y 1)
  rw [← eq_ix2 (y : S128x1.Idx)] at h
  exact h

/-! ## The second call -/

/-- The row of the padded matrix that row `r` of block `t` is. -/
abbrev row1 (t : Fin cfg1.N) (r : Fin 128) : Fin 2176 := rowAt (grid1.coords t 0).val (grid1.coords t 0).isLt r

/-- A block of the second call's Gram rows. -/
theorem read1_0 (t : Fin cfg1.N) (r : Fin 128) (j : Fin 2176) :
    (iblk1 V c 0 t : Vec Ideal S128x2176 .f32) (ix2 r j) = (V c main_v7 : FVec Ideal S2176x2176 .f32) (ix2 (row1 t r) j) := by
  blk_simp [iblk1]
  refine congrArg (V c main_v7) ?_
  blk_ext [idx1 t]

/-- A block of the second call's Gram columns. -/
theorem read1_1 (t : Fin cfg1.N) (r : Fin 128) (j : Fin 2176) :
    (iblk1 V c 1 t : Vec Ideal S128x2176 .f32) (ix2 r j) = (V c main_v10 : FVec Ideal S2176x2176 .f32) (ix2 (row1 t r) j) := by
  blk_simp [iblk1]
  refine congrArg (V c main_v10) ?_
  blk_ext [idx1 t]

/-- A block of the second call's thresholds of the rows. -/
theorem read1_2 (t : Fin cfg1.N) (r : Fin 128) (j : Fin 1) :
    (iblk1 V c 2 t : Vec Ideal S128x1 .f32) (ix2 r j) = (V c main_v8 : FVec Ideal S2176x1 .f32) (ix2 (row1 t r) j) := by
  blk_simp [iblk1]
  refine congrArg (V c main_v8) ?_
  blk_ext [idx1 t]

/-- The second call's thresholds of the columns. -/
theorem read1_3 (t : Fin cfg1.N) (r : Fin 1) (j : Fin 2176) :
    (iblk1 V c 3 t : Vec Ideal S1x2176 .f32) (ix2 r j) = (V c main_v9 : FVec Ideal S1x2176 .f32) (ix2 r j) := by
  blk_simp [iblk1]
  refine congrArg (V c main_v9) ?_
  blk_ext [idx1 t]

/-- What the second call's operand arrays hold on entry. -/
structure Entry1 : Prop where
  rows : ∀ i j : Fin 2176, (V c main_v7 : FVec Ideal S2176x2176 .f32) (ix2 i j) = gramP X i j
  cols : ∀ i j : Fin 2176, (V c main_v10 : FVec Ideal S2176x2176 .f32) (ix2 i j) = gramP X j i
  thrRow : ∀ i : Fin 2176, Selects X i ((V c main_v8 : FVec Ideal S2176x1 .f32) (ix2 i 0))
  thrCol : ∀ j : Fin 2176, Selects X j ((V c main_v9 : FVec Ideal S1x2176 .f32) (ix2 0 j))

variable {V c X}

/-- So a block of each operand holds what the block computation asks for. -/
theorem Entry1.blocks (h : Entry1 V c X) (t : Fin cfg1.N) :
    Blocks X (grid1.coords t 0).val (grid1.coords t 0).isLt (iblk1 V c 0 t) (iblk1 V c 1 t) (iblk1 V c 2 t) (iblk1 V c 3 t) where
  rows r j := (read1_0 V c t r j).trans (h.rows _ _)
  cols r j := (read1_1 V c t r j).trans (h.cols _ _)
  thrRow r v := by rw [read1_2]; exact h.thrRow _ v
  thrCol j v := by rw [read1_3]; exact h.thrCol _ v

/-- Where a block of the leading weights lies. -/
theorem place1_4 (t : Fin cfg1.N) (y : S128x2176.Idx) :
    ((win1_4.blk t).view.emb y : S2176x2176.Idx) = ix2 (row1 t (y 0)) (y 1) := by blk_ext [idx1 t]

/-- Where a block of the middle weights lies. -/
theorem place1_5 (t : Fin cfg1.N) (y : S128x2176.Idx) :
    ((win1_5.blk t).view.emb y : S2176x2176.Idx) = ix2 (row1 t (y 0)) (y 1) := by blk_ext [idx1 t]

/-- Where a block of the lowest weights lies. -/
theorem place1_6 (t : Fin cfg1.N) (y : S128x2176.Idx) :
    ((win1_6.blk t).view.emb y : S2176x2176.Idx) = ix2 (row1 t (y 0)) (y 1) := by blk_ext [idx1 t]

/-- The leading weights the second call leaves: the padded affinity. -/
theorem leads (h : Entry1 V c X) : ((dat1 V c).arrAt 4 cfg1.N : FVec Ideal S2176x2176 .bf16) = fun i => affP X (i 0) (i 1) := by
  refine (dat1 V c).arrAt_eq_of_covers 4 (fun i : S2176x2176.Idx => affP X (i 0) (i 1)) (by decide +kernel) (fun t hf y => ?_)
  blk_simp
  rw [after1_4, place1_4]
  have e := lead_eq (grid1.coords t) (h.blocks t) (y 0) (y 1)
  rw [← eq_ix2 (y : S128x2176.Idx)] at e
  exact e

/-- The middle weights it leaves. -/
theorem mids (h : Entry1 V c X) : ((dat1 V c).arrAt 5 cfg1.N : FVec Ideal S2176x2176 .bf16) = fun i => affP X (i 0) (i 1) - affP X (i 0) (i 1) := by
  refine (dat1 V c).arrAt_eq_of_covers 5 (fun i : S2176x2176.Idx => affP X (i 0) (i 1) - affP X (i 0) (i 1)) (by decide +kernel) (fun t hf y => ?_)
  blk_simp
  rw [after1_5, place1_5]
  have e := mid_eq (grid1.coords t) (h.blocks t) (y 0) (y 1)
  rw [← eq_ix2 (y : S128x2176.Idx)] at e
  exact e

/-- The lowest weights it leaves. -/
theorem lows (h : Entry1 V c X) : ((dat1 V c).arrAt 6 cfg1.N : FVec Ideal S2176x2176 .bf16)
    = fun i => affP X (i 0) (i 1) - affP X (i 0) (i 1) - (affP X (i 0) (i 1) - affP X (i 0) (i 1)) := by
  refine (dat1 V c).arrAt_eq_of_covers 6 (fun i : S2176x2176.Idx =>
    affP X (i 0) (i 1) - affP X (i 0) (i 1) - (affP X (i 0) (i 1) - affP X (i 0) (i 1))) (by decide +kernel) (fun t hf y => ?_)
  blk_simp
  rw [after1_6, place1_6]
  have e := low_eq (grid1.coords t) (h.blocks t) (y 0) (y 1)
  rw [← eq_ix2 (y : S128x2176.Idx)] at e
  exact e

/-- Where a block of the row sums lies. -/
theorem place1_7 (t : Fin cfg1.N) (y : S128x1.Idx) :
    ((win1_7.blk t).view.emb y : S2176x1.Idx) = ix2 (row1 t (y 0)) (y 1) := by blk_ext [idx1 t]

/-- The row sums it leaves: the padded degrees. -/
theorem sums (h : Entry1 V c X) : ((dat1 V c).arrAt 7 cfg1.N : FVec Ideal S2176x1 .f32) = fun i => degP X (i 0) := by
  refine (dat1 V c).arrAt_eq_of_covers 7 (fun i : S2176x1.Idx => degP X (i 0)) (by decide +kernel) (fun t hf y => ?_)
  blk_simp
  rw [after1_7, place1_7]
  have e := sums_eq (grid1.coords t) (h.blocks t) (y 0) (y 1)
  rw [← eq_ix2 (y : S128x1.Idx)] at e
  exact e

/-! ## The third call -/

/-- The third call's one point takes its operands whole. -/
theorem idx2 : ∀ t : Fin cfg2.N, win2_0.index t = ![0, 0] ∧ win2_1.index t = ![0, 0] ∧ win2_2.index t = ![0, 0]
    ∧ win2_3.index t = ![0, 0] ∧ win2_4.index t = ![0, 0] := (by decide +kernel : ∀ t : Fin grid2.N, _)

/-- It reads the leading weights whole, -/
theorem read2_0 (t : Fin cfg2.N) : (iblk2 V c 0 t : Vec Ideal S2176x2176 .bf16) = (V c main_v11_0 : Vec Ideal S2176x2176 .bf16) := by
  funext y
  blk_simp [iblk2]
  refine congrArg (V c main_v11_0) ?_
  blk_ext [idx2 t]

/-- the middle weights whole, -/
theorem read2_1 (t : Fin cfg2.N) : (iblk2 V c 1 t : Vec Ideal S2176x2176 .bf16) = (V c main_v11_1 : Vec Ideal S2176x2176 .bf16) := by
  funext y
  blk_simp [iblk2]
  refine congrArg (V c main_v11_1) ?_
  blk_ext [idx2 t]

/-- the lowest weights whole, -/
theorem read2_2 (t : Fin cfg2.N) : (iblk2 V c 2 t : Vec Ideal S2176x2176 .bf16) = (V c main_v11_2 : Vec Ideal S2176x2176 .bf16) := by
  funext y
  blk_simp [iblk2]
  refine congrArg (V c main_v11_2) ?_
  blk_ext [idx2 t]

/-- the row sums whole, -/
theorem read2_3 (t : Fin cfg2.N) : (iblk2 V c 3 t : Vec Ideal S2176x1 .f32) = (V c main_v11_3 : Vec Ideal S2176x1 .f32) := by
  funext y
  blk_simp [iblk2]
  refine congrArg (V c main_v11_3) ?_
  blk_ext [idx2 t]

/-- and the labels whole. -/
theorem read2_4 (t : Fin cfg2.N) : (iblk2 V c 4 t : Vec Ideal S2176x1 .i32) = (V c main_v16 : Vec Ideal S2176x1 .i32) := by
  funext y
  blk_simp [iblk2]
  refine congrArg (V c main_v16) ?_
  blk_ext [idx2 t]

variable {Y : Fin 2100 → Fin 20 → ℝ}

/-- What the third call solves, when its operands hold the affinity matrix of `X` and the labels `Y`. -/
theorem solved_at (h : Holds X Y (V c main_v11_3) (V c main_v16) (V c main_v11_0) (V c main_v11_1) (V c main_v11_2)) (t : Fin cfg2.N) :
    solved (iblk2 V c 3 t) (iblk2 V c 4 t) (iblk2 V c 0 t) (iblk2 V c 1 t) (iblk2 V c 2 t) = cells (pad (scores X Y)) := by
  rw [read2_0, read2_1, read2_2, read2_3, read2_4]
  exact solved_eq h

/-- The probabilities the third call leaves. -/
theorem probsLeft (h : Holds X Y (V c main_v11_3) (V c main_v16) (V c main_v11_0) (V c main_v11_1) (V c main_v11_2)) :
    ((dat2 V c).arrAt 5 cfg2.N : Vec Ideal S2176x32 .f32) = k2_pay14 (cells (pad (scores X Y))) := by
  refine (dat2 V c).arrAt_eq_of_after_last 5 t2_0 (by decide +kernel) _ fun j => ?_
  blk_simp
  rw [after2_5, left_5, solved_at h]
  try rfl

/-- The labels it leaves. -/
theorem labelsLeft (h : Holds X Y (V c main_v11_3) (V c main_v16) (V c main_v11_0) (V c main_v11_1) (V c main_v11_2)) :
    ((dat2 V c).arrAt 6 cfg2.N : Vec Ideal S2176x1 .i32) = k2_pay1 (k2_pay15 (cells (pad (scores X Y)))) := by
  refine (dat2 V c).arrAt_eq_of_after_last 6 t2_0 (by decide +kernel) _ fun j => ?_
  blk_simp
  rw [after2_6, left_6, solved_at h]
  try rfl

/-- The negated greatest scores it leaves. -/
theorem amaxLeft (h : Holds X Y (V c main_v11_3) (V c main_v16) (V c main_v11_0) (V c main_v11_1) (V c main_v11_2)) :
    ((dat2 V c).arrAt 7 cfg2.N : Vec Ideal S2176x1 .f32) = k2_pay13 (cells (pad (scores X Y))) := by
  refine (dat2 V c).arrAt_eq_of_after_last 7 t2_0 (by decide +kernel) _ fun j => ?_
  blk_simp
  rw [after2_7, left_7, solved_at h]
  try rfl

end Cert.KernelIdeal.Value

end
-- ==== Proof.KernelValue.lean ====
/- The kernel's results over the extended reals: the labels, the probabilities and the negated greatest scores of the
   query rows, from the scores of the padded problem. -/
module

public import proofs.«01_k».proof.Proof.KernelPrep
public import proofs.«01_k».proof.Proof.KernelCalls
public import Idealize.ShloMosaic.Lib.Claim

@[expose] public section

noncomputable section

namespace Cert.KernelIdeal.Value

open Idealize.ShloMosaic Idealize.ShloMosaic.TcCoe Idealize.SL.Sem
open Cert.KernelIdeal Cert.KernelIdeal.Gen Cert.Spec Cert.Threshold

set_option maxRecDepth 16384

/-- What the arguments hold: features, which may be infinite, and small labels. -/
structure Args (x0 : FVec Ideal S100x768 .f32) (x1 : IVec S100 32) (x2 : FVec Ideal S2000x768 .f32)
    (a : Fin 100 → Fin 768 → EReal) (lab : Fin 100 → BitVec 32) (q : Fin 2000 → Fin 768 → EReal) : Prop where
  support : ∀ i k, x0 (ix2 i k) = a i k
  labels : ∀ i, x1 (ix1 i) = lab i
  query : ∀ i k, x2 (ix2 i k) = q i k
  small : Small lab

variable (m : (ℓ : Loc nD τ sig) → Buf (Elt Ideal) ℓ) (ρ : Dev nD → PrngReg) (c : Dev nD)
  {a : Fin 100 → Fin 768 → EReal} {lab : Fin 100 → BitVec 32} {q : Fin 2000 → Fin 768 → EReal}

variable (h : Args (m ((c : Thread nD τ).loc main_arg0)) (m ((c : Thread nD τ).loc main_arg1)) (m ((c : Thread nD τ).loc main_arg2)) a lab q)

include h

/-- The padded Gram matrix. -/
theorem at1_v7 (i j : Fin 2176) :
    (W1 m ρ c (Proc.devRef .tc main_v7) : FVec Ideal S2176x2176 .f32) (ix2 i j) = gramP (stack a q) i j := by
  unfold W1
  entry_read
  rw [corner]
  exact gram_padded _ (gram (stack a q)) (fun i j => gram_ix _ _ (stacked _ _ a q h.support h.query) i j) i j

/-- The thresholds. -/
theorem at2_v8 (i : S2176x1.Idx) : Selects (stack a q) (i 0) ((W2 m ρ c (Proc.devRef .tc main_v8) : FVec Ideal S2176x1 .f32) i) := by
  have e := W2_arr m ρ c 1
  have e' : (W2 m ρ c (Proc.devRef .tc main_v8) : FVec Ideal S2176x1 .f32) = (dat0 (V1 m ρ) c).arrAt 1 cfg0.N := e
  rw [e']
  exact thresholds (V1 m ρ) c (stack a q) (at1_v7 m ρ c h) i

/-- The first call leaves the padded Gram matrix as it was. -/
theorem at2_v7 (i j : Fin 2176) :
    (W2 m ρ c (Proc.devRef .tc main_v7) : FVec Ideal S2176x2176 .f32) (ix2 i j) = gramP (stack a q) i j := by
  rw [W2_of m ρ c main_v7 (by decide)]
  exact at1_v7 m ρ c h i j

/-- What the second call finds. -/
theorem entry1 : Entry1 (V3 m ρ) c (stack a q) where
  rows i j := by
    show (W3 m ρ c (Proc.devRef .tc main_v7) : FVec Ideal S2176x2176 .f32) (ix2 i j) = _
    rw [W3_of m ρ c main_v7 (by decide)]
    exact at2_v7 m ρ c h i j
  cols i j := by
    show (W3 m ρ c (Proc.devRef .tc main_v10) : FVec Ideal S2176x2176 .f32) (ix2 i j) = _
    unfold W3
    entry_read
    rw [← at2_v7 m ρ c h j i]
    pointwise []
  thrRow i := by
    show Selects _ _ ((W3 m ρ c (Proc.devRef .tc main_v8) : FVec Ideal S2176x1 .f32) (ix2 i 0))
    rw [W3_of m ρ c main_v8 (by decide)]
    exact at2_v8 m ρ c h (ix2 i 0)
  thrCol j := by
    show Selects _ _ ((W3 m ρ c (Proc.devRef .tc main_v9) : FVec Ideal S1x2176 .f32) (ix2 0 j))
    have e : (W3 m ρ c (Proc.devRef .tc main_v9) : FVec Ideal S1x2176 .f32) (ix2 0 j)
        = (W2 m ρ c (Proc.devRef .tc main_v8) : FVec Ideal S2176x1 .f32) (ix2 j 0) := by
      unfold W3
      entry_read
      pointwise []
    rw [e]
    exact at2_v8 m ρ c h (ix2 j 0)

/-- The column of labels that the third call finds. -/
theorem at5_labels (i : Fin 2176) : (W5 m ρ c (Proc.devRef .tc main_v16) : IVec S2176x1 32) (ix2 i 0)
    = if h : i.val < 100 then lab ⟨i.val, h⟩ else 4294967295#32 := by
  unfold W5
  entry_read
  rw [corner]
  refine labels_padded _ lab (fun i => ?_) i
  rw [show (W4 m ρ c (Proc.devRef .tc main_arg1) : IVec S100 32) = m ((c : Thread nD τ).loc main_arg1) from W4_args m ρ c main_arg1 (by decide)]
  exact h.labels i

/-- What the third call finds. -/
theorem entry2 : Holds (stack a q) (hot lab) (V5 m ρ c main_v11_3) (V5 m ρ c main_v16) (V5 m ρ c main_v11_0) (V5 m ρ c main_v11_1)
    (V5 m ρ c main_v11_2) where
  sums i := by
    have e : (V5 m ρ c main_v11_3 : FVec Ideal S2176x1 .f32) = (dat1 (V3 m ρ) c).arrAt 7 cfg1.N :=
      (W5_of m ρ c main_v11_3 (by decide)).trans (W4_arr m ρ c 7)
    rw [e, sums (entry1 m ρ c h)]
    rfl
  lead i j t := by
    have e : (V5 m ρ c main_v11_0 : FVec Ideal S2176x2176 .bf16) = (dat1 (V3 m ρ) c).arrAt 4 cfg1.N :=
      (W5_of m ρ c main_v11_0 (by decide)).trans (W4_arr m ρ c 4)
    rw [e, leads (entry1 m ρ c h)]
    exact padE_mul _ i j t
  mid i j t := by
    have e : (V5 m ρ c main_v11_1 : FVec Ideal S2176x2176 .bf16) = (dat1 (V3 m ρ) c).arrAt 5 cfg1.N :=
      (W5_of m ρ c main_v11_1 (by decide)).trans (W4_arr m ρ c 5)
    rw [e, mids (entry1 m ρ c h)]
    exact padE_rest _ i j t
  low i j t := by
    have e : (V5 m ρ c main_v11_2 : FVec Ideal S2176x2176 .bf16) = (dat1 (V3 m ρ) c).arrAt 6 cfg1.N :=
      (W5_of m ρ c main_v11_2 (by decide)).trans (W4_arr m ρ c 6)
    rw [e, lows (entry1 m ρ c h)]
    exact padE_last _ i j t
  labels i l := by
    rw [show (V5 m ρ c main_v16 : IVec S2176x1 32) (ix2 i 0) = _ from at5_labels m ρ c h i]
    unfold Spec.pad hot
    by_cases hi : i.val < 100
    · rw [dif_pos hi]
      by_cases hl : l.val < 20
      · rw [dif_pos ⟨by omega, hl⟩, dif_pos hi]
        by_cases e : lab ⟨i.val, hi⟩ = BitVec.ofNat 32 l.val
        · rw [if_pos e.symm, if_pos e]
        · rw [if_neg (fun e' => e e'.symm), if_neg e]
      · rw [dif_neg (fun q => hl q.2), if_neg]
        obtain ⟨k, hk⟩ := h.small ⟨i.val, hi⟩
        rw [hk]
        intro e
        have e := congrArg BitVec.toNat e
        rw [BitVec.toNat_ofNat, BitVec.toNat_ofNat] at e
        omega
    · rw [dif_neg hi, if_neg]
      · split <;> rfl
      · intro e
        have e := congrArg BitVec.toNat e
        rw [BitVec.toNat_ofNat, BitVec.toNat_ofNat] at e
        omega

/-- The row of a query. -/
abbrev queryRow (y : Fin 2000) : Fin 2100 := ⟨100 + y.val, by omega⟩

/-- THE LABELS. -/
theorem at7_labels (y : Fin 2000) : (W7 m ρ c (Proc.devRef .tc main_v19) : IVec S2000 32) (ix1 y)
    = BitVec.ofNat 32 (best (scores (stack a q) (hot lab)) (queryRow y)).val := by
  have e : (W6 m ρ c (Proc.devRef .tc main_v17_1) : IVec S2176x1 32) = (dat2 (V5 m ρ) c).arrAt 6 cfg2.N := W6_arr m ρ c 6
  rw [labelsLeft (entry2 m ρ c h)] at e
  rw [← end_label (scores (stack a q) (hot lab)) ⟨100 + y.val, by omega⟩ (by show 100 + y.val < 2100; omega) 0, ← e]
  unfold W7
  entry_read
  pointwise []

/-- THE PROBABILITIES. -/
theorem at7_probs (y : Fin 2000) (l : Fin 20) : (W7 m ρ c (Proc.devRef .tc main_v20) : FVec Ideal S2000x20 .f32) (ix2 y l)
    = ((prob (scores (stack a q) (hot lab)) (queryRow y) l : ℝ) : EReal) := by
  have e : (W6 m ρ c (Proc.devRef .tc main_v17_0) : FVec Ideal S2176x32 .f32) = (dat2 (V5 m ρ) c).arrAt 5 cfg2.N := W6_arr m ρ c 5
  rw [probsLeft (entry2 m ρ c h)] at e
  refine Eq.trans ?_ (end_probs (scores (stack a q) (hot lab)) ⟨100 + y.val, by omega⟩ (by show 100 + y.val < 2100; omega) ⟨l.val, by omega⟩ l.isLt)
  rw [← e]
  unfold W7
  entry_read
  pointwise []

/-- THE NEGATED GREATEST SCORES. -/
theorem at7_amax (y : Fin 2000) : (W7 m ρ c (Proc.devRef .tc main_v22) : FVec Ideal S2000 .f32) (ix1 y)
    = ((-zpos (scores (stack a q) (hot lab)) (queryRow y) (best (scores (stack a q) (hot lab)) (queryRow y)) : ℝ) : EReal) := by
  have e : (W6 m ρ c (Proc.devRef .tc main_v17_2) : FVec Ideal S2176x1 .f32) = (dat2 (V5 m ρ) c).arrAt 7 cfg2.N := W6_arr m ρ c 7
  rw [amaxLeft (entry2 m ρ c h)] at e
  rw [← end_amax (scores (stack a q) (hot lab)) ⟨100 + y.val, by omega⟩ (by show 100 + y.val < 2100; omega) 0, ← e]
  unfold W7
  entry_read
  pointwise []

end Cert.KernelIdeal.Value

end
-- ==== Proof.PreArgs.lean ====
/- What the precondition says of the arguments: the labels are the numbers 0 to 19. -/
module

public import proofs.«01_k».proof.Proof.KernelValue
public import proofs.«01_k».proof.Proof.Gen.Pre_labelled
public import Idealize.ShloMosaic.Lib.ReduceAll

@[expose] public section

noncomputable section

namespace Cert.KernelIdeal.Value

open Idealize.ShloMosaic Idealize.ShloMosaic.TcCoe Idealize.SL.Sem
open Cert.KernelIdeal Cert.KernelIdeal.Gen Cert.Spec Cert.Consts

set_option maxRecDepth 16384

/-- A word at least 0 and below 20, read with its sign, is a number 0 to 19. -/
theorem small_word (v : BitVec 32) (h : IntOp.andi (IntOp.cmpi .sge v 0#32) (IntOp.cmpi .slt v 20#32) = 1#1) :
    ∃ l : Fin 20, v = BitVec.ofNat 32 l.val := by
  have both : ∀ p q : Bool, IntOp.andi (BitVec.ofBool p) (BitVec.ofBool q) = 1#1 → p = true ∧ q = true := by decide
  obtain ⟨h0, h1⟩ := both _ _ h
  simp only [BitVec.sle_eq_decide, BitVec.slt_eq_decide, decide_eq_true_eq, BitVec.toInt_eq_toNat_cond, BitVec.toNat_ofNat, Nat.reducePow,
    Nat.reduceMod] at h0 h1
  have hv : v.toNat < 20 := by omega
  exact ⟨⟨v.toNat, hv⟩, (by simp)⟩

/-- The arguments of a memory that meets the precondition. -/
theorem args_of_pre (x0 : FVec Ideal S100x768 .f32) (x1 : IVec S100 32) (x2 : FVec Ideal S2000x768 .f32)
    (h : Cert.Pre_labelled.fn (F := Ideal) x0 x1 x2 = fun _ => 1#1) :
    Args x0 x1 x2 (fun i k => x0 (ix2 i k)) (fun i => x1 (ix1 i)) (fun i k => x2 (ix2 i k)) := by
  haveI : Subsingleton (⟨0, ![]⟩ : Shape).Idx := ⟨fun a b => funext fun i => i.elim0⟩
  have g := Host.reduce_andi_all _ _ _ _ _ (congrFun h ix0)
  exact ⟨fun _ _ => rfl, fun _ => rfl, fun _ _ => rfl, fun i => small_word _ (g (ix1 i))⟩

end Cert.KernelIdeal.Value

end
-- ==== Proof.KernelRun.lean ====
/- The kernel's run over the extended reals: what the three result arrays hold at the end, as the contents at the last
   segment boundary of @main (`Gen.W7`). The launch is the generated frame's (Gen/KernelIdeal/Frame.lean `frame`), its last
   thread state read at the results as well as at the arguments. -/
module

public import proofs.«01_k».proof.Proof.Gen.KernelIdeal.Frame

@[expose] public section

noncomputable section

namespace Cert.KernelIdeal.Value

open Idealize.ShloMosaic Idealize.ShloMosaic.TcCoe Idealize.SL.Sem
open Idealize.SL Idealize.SL.RA Idealize.SL.BI Idealize.SL.ProofMode
open scoped Idealize.SL.BI
open Idealize.SL.BI.BIBase Idealize.SL.BI.Laws
open Idealize.ShloMosaic.Rounds
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- THE RUN: the results at the last boundary's contents, the arguments as launched. -/
theorem run : θ_run (defs (F := Ideal)) (onTc (τ := τ) (main (F := Ideal))) ⟨m, fun _ => 0, ρ⟩ (fun r => ∀ c : Dev nD,
      r.2.mem ((c.tc : Thread nD τ).loc main_v19) = W7 m ρ c (Proc.devRef .tc main_v19)
      ∧ r.2.mem ((c.tc : Thread nD τ).loc main_v20) = W7 m ρ c (Proc.devRef .tc main_v20)
      ∧ r.2.mem ((c.tc : Thread nD τ).loc main_v22) = W7 m ρ c (Proc.devRef .tc main_v22)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h _ c =>
      ⟨h c _ (mem_uc main_v19 (by decide)), h c _ (mem_uc main_v20 (by decide)), h c _ (mem_uc main_v22 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c)⟩)

end Cert.KernelIdeal.Value

end
-- ==== Proof.RefLoop.lean ====
/- The reference's loop over the extended reals: one trip is one refinement step (`Chebyshev.refine`) on tables of
   reals, so three trips from zero leave the table of scores. -/
module

public import proofs.«01_k».proof.Proof.Data
public import proofs.«01_k».proof.Proof.Consts
public import proofs.«01_k».proof.Proof.Gen.ReferenceIdeal.Run
public import Idealize.ShloMosaic.Lib.Pointwise

@[expose] public section

noncomputable section

namespace Cert.ReferenceIdeal.Value

open Idealize.ShloMosaic Idealize.ShloMosaic.TcCoe Idealize.SL.Sem
open Cert.ReferenceIdeal Cert.ReferenceIdeal.Gen Cert.Spec Cert.Chebyshev Cert.Consts

set_option maxRecDepth 16384

/-- A table of reals as extended reals. -/
def tbl (v : Fin 2100 → Fin 20 → ℝ) : FVec Ideal S2100x20 .f32 := fun y => ((v (y 0) (y 1) : ℝ) : EReal)

/-- An entry of the table. -/
theorem tbl_ix (v : Fin 2100 → Fin 20 → ℝ) (i : Fin 2100) (l : Fin 20) : tbl v (ix2 i l) = ((v i l : ℝ) : EReal) := rfl

/-- A square matrix of reals as extended reals. -/
def sq (w : Fin 2100 → Fin 2100 → ℝ) : FVec Ideal S2100x2100 .f32 := fun y => ((w (y 0) (y 1) : ℝ) : EReal)

/-- An entry of the square. -/
theorem sq_ix (w : Fin 2100 → Fin 2100 → ℝ) (i j : Fin 2100) : sq w (ix2 i j) = ((w i j : ℝ) : EReal) := rfl

/-- A single real. -/
def one (r : ℝ) : FVec Ideal S_ .f32 := fun _ => (r : EReal)

/-- A matrix times a table. -/
def mul (w : Fin 2100 → Fin 2100 → ℝ) (v : Fin 2100 → Fin 20 → ℝ) : Fin 2100 → Fin 20 → ℝ := fun i l => ∑ j, w i j * v j l

/-- A table less the matrix times a table. -/
theorem residual (w : Fin 2100 → Fin 2100 → ℝ) (r v : Fin 2100 → Fin 20 → ℝ) :
    subf (tbl r) (Host.dotGeneral dot_S2100x2100_S2100x20_S2100x20_1_0_0_1_n_n none (sq w) (tbl v)) = tbl (r - mul w v) := by
  funext y
  idx_vars y
  pointwise []
  simp only [tbl_ix, sq_ix, ← EReal.coe_mul]
  rw [← coe_sum, ← EReal.coe_sub]
  rfl

/-- One step of the iteration. -/
theorem cheb_step (w : Fin 2100 → Fin 2100 → ℝ) (k : ℝ) (x xp r : Fin 2100 → Fin 20 → ℝ) :
    addf (mulf (broadcastInDim S2100x20 ![] bcast_S_S2100x20 (one k)) (addf (subf (tbl x) (tbl xp))
      (subf (tbl r) (Host.dotGeneral dot_S2100x2100_S2100x20_S2100x20_1_0_0_1_n_n none (sq w) (tbl x))))) (tbl xp)
      = tbl (k • (x - xp + (r - mul w x)) + xp) := by
  rw [residual]
  funext y
  idx_vars y
  pointwise [one]
  simp only [tbl_ix, ← EReal.coe_mul, ← EReal.coe_sub, ← EReal.coe_add]
  rfl

/-- The next weight. -/
theorem next_weight (k : ℕ) :
    Host.divf (constant S_ .f32 0x3F800000#32) (subf (constant S_ .f32 0x3F800000#32)
      (mulf (Host.divf (mulf (one (4 / 5)) (one (4 / 5))) (constant S_ .f32 0x40800000#32)) (one (weight k)))) = one (weight (k + 1)) := by
  funext y
  pointwise [one]
  have h : (1 : ℝ) - 4 / 5 * (4 / 5) * (1 / 4) * weight k ≠ 0 := fun e => weight_den k (by rw [← e]; ring)
  rw [c_four, ← EReal.coe_mul, Ideal.div_coe (by norm_num), ← EReal.coe_mul, ← EReal.coe_mul, show (1 : EReal) = ((1 : ℝ) : EReal) from rfl,
    ← EReal.coe_sub, Ideal.div_coe h, ← EReal.coe_mul]
  have e : (1 : ℝ) * (1 / (1 - 4 / 5 * (4 / 5) * (1 / 4) * weight k)) = weight (k + 1) := by
    show _ = 1 / (1 - 4 / 5 * (4 / 5) / 4 * weight k)
    rw [one_mul]
    congr 2
    ring
  rw [e]

/-- The first weight is 2. -/
theorem first_weight : (constant (F := Ideal) S_ .f32 0x40000000#32) = one (weight 0) := by
  funext y
  exact c_two

variable {V0 : Valuation τ sig (Elt Ideal)} {A : Fin 2100 → Fin 2100 → ℝ} {Y Z : Fin 2100 → Fin 20 → ℝ}

/-- Four divided by five. -/
theorem alpha_eq : (res_main_while0b_v96 V0 : FVec Ideal S_ .f32) = one (4 / 5) := by
  unfold res_main_while0b_v96
  funext y
  pointwise [one]
  rw [c_four, c_five, Ideal.div_coe (by norm_num), ← EReal.coe_mul]
  norm_num

/-- The zero table. -/
theorem zero_eq : (res_main_while0b_v97 V0 : FVec Ideal S2100x20 .f32) = tbl 0 := by
  unfold res_main_while0b_v97
  funext y
  exact Ideal.ofBits_zero_f32

/-- What the loop carries: the matrix, the labels, the iterate. -/
structure Carries (V0 : Valuation τ sig (Elt Ideal)) (A : Fin 2100 → Fin 2100 → ℝ) (Y Z : Fin 2100 → Fin 20 → ℝ) : Prop where
  mat : (V0 (Proc.devRef .tc main_v64_0) : FVec Ideal S2100x2100 .f32) = sq A
  lab : (V0 (Proc.devRef .tc main_v64_1) : FVec Ideal S2100x20 .f32) = tbl Y
  it : (V0 (Proc.devRef .tc main_v64_4) : FVec Ideal S2100x20 .f32) = tbl Z

variable (h : Carries V0 A Y Z)
include h

/-- The first iterate. -/
theorem x_1 : (res_main_while0b_v95 V0 : FVec Ideal S2100x20 .f32) = tbl (tb (mul A) (Y - mul A Z) 0).2 := by
  unfold res_main_while0b_v95
  rw [h.mat, h.lab, h.it, residual]
  rfl

omit h in
/-- Weight number 1. -/
theorem w_1 : (res_main_while0b_v102 V0 : FVec Ideal S_ .f32) = one (weight 1) := by
  unfold res_main_while0b_v102
  rw [alpha_eq, first_weight]
  exact next_weight 0

omit h in
/-- Weight number 2. -/
theorem w_2 : (res_main_while0b_v114 V0 : FVec Ideal S_ .f32) = one (weight 2) := by
  unfold res_main_while0b_v114
  rw [alpha_eq, w_1]
  exact next_weight 1

omit h in
/-- Weight number 3. -/
theorem w_3 : (res_main_while0b_v126 V0 : FVec Ideal S_ .f32) = one (weight 3) := by
  unfold res_main_while0b_v126
  rw [alpha_eq, w_2]
  exact next_weight 2

omit h in
/-- Weight number 4. -/
theorem w_4 : (res_main_while0b_v138 V0 : FVec Ideal S_ .f32) = one (weight 4) := by
  unfold res_main_while0b_v138
  rw [alpha_eq, w_3]
  exact next_weight 3

omit h in
/-- Weight number 5. -/
theorem w_5 : (res_main_while0b_v150 V0 : FVec Ideal S_ .f32) = one (weight 5) := by
  unfold res_main_while0b_v150
  rw [alpha_eq, w_4]
  exact next_weight 4

omit h in
/-- Weight number 6. -/
theorem w_6 : (res_main_while0b_v162 V0 : FVec Ideal S_ .f32) = one (weight 6) := by
  unfold res_main_while0b_v162
  rw [alpha_eq, w_5]
  exact next_weight 5

omit h in
/-- Weight number 7. -/
theorem w_7 : (res_main_while0b_v174 V0 : FVec Ideal S_ .f32) = one (weight 7) := by
  unfold res_main_while0b_v174
  rw [alpha_eq, w_6]
  exact next_weight 6

omit h in
/-- Weight number 8. -/
theorem w_8 : (res_main_while0b_v186 V0 : FVec Ideal S_ .f32) = one (weight 8) := by
  unfold res_main_while0b_v186
  rw [alpha_eq, w_7]
  exact next_weight 7

/-- Iterate number 2. -/
theorem x_2 : (res_main_while0b_v109 V0 : FVec Ideal S2100x20 .f32) = tbl (tb (mul A) (Y - mul A Z) 1).2 := by
  unfold res_main_while0b_v109
  rw [w_1, x_1 h, zero_eq, h.mat]
  exact cheb_step A (weight 1) _ _ _

/-- Iterate number 3. -/
theorem x_3 : (res_main_while0b_v121 V0 : FVec Ideal S2100x20 .f32) = tbl (tb (mul A) (Y - mul A Z) 2).2 := by
  unfold res_main_while0b_v121
  rw [w_2, x_2 h, x_1 h, h.mat]
  exact cheb_step A (weight 2) _ _ _

/-- Iterate number 4. -/
theorem x_4 : (res_main_while0b_v133 V0 : FVec Ideal S2100x20 .f32) = tbl (tb (mul A) (Y - mul A Z) 3).2 := by
  unfold res_main_while0b_v133
  rw [w_3, x_3 h, x_2 h, x_1 h, h.mat]
  exact cheb_step A (weight 3) _ _ _

/-- Iterate number 5. -/
theorem x_5 : (res_main_while0b_v145 V0 : FVec Ideal S2100x20 .f32) = tbl (tb (mul A) (Y - mul A Z) 4).2 := by
  unfold res_main_while0b_v145
  rw [w_4, x_4 h, x_3 h, x_1 h, h.mat]
  exact cheb_step A (weight 4) _ _ _

/-- Iterate number 6. -/
theorem x_6 : (res_main_while0b_v157 V0 : FVec Ideal S2100x20 .f32) = tbl (tb (mul A) (Y - mul A Z) 5).2 := by
  unfold res_main_while0b_v157
  rw [w_5, x_5 h, x_4 h, x_1 h, h.mat]
  exact cheb_step A (weight 5) _ _ _

/-- Iterate number 7. -/
theorem x_7 : (res_main_while0b_v169 V0 : FVec Ideal S2100x20 .f32) = tbl (tb (mul A) (Y - mul A Z) 6).2 := by
  unfold res_main_while0b_v169
  rw [w_6, x_6 h, x_5 h, x_1 h, h.mat]
  exact cheb_step A (weight 6) _ _ _

/-- Iterate number 8. -/
theorem x_8 : (res_main_while0b_v181 V0 : FVec Ideal S2100x20 .f32) = tbl (tb (mul A) (Y - mul A Z) 7).2 := by
  unfold res_main_while0b_v181
  rw [w_7, x_7 h, x_6 h, x_1 h, h.mat]
  exact cheb_step A (weight 7) _ _ _

/-- Iterate number 9. -/
theorem x_9 : (res_main_while0b_v193 V0 : FVec Ideal S2100x20 .f32) = tbl (tb (mul A) (Y - mul A Z) 8).2 := by
  unfold res_main_while0b_v193
  rw [w_8, x_8 h, x_7 h, x_1 h, h.mat]
  exact cheb_step A (weight 8) _ _ _

/-- ONE TRIP refines the iterate. -/
theorem trip : (step_main_v64_4 V0 : FVec Ideal S2100x20 .f32) = tbl (refine (mul A) Y Z) := by
  unfold step_main_v64_4
  rw [alpha_eq, w_8, x_9 h, x_8 h, x_1 h, h.mat, h.it]
  refine (congrArg₂ (fun p q => addf (tbl Z) (addf (mulf (broadcastInDim S2100x20 ![] bcast_S_S2100x20 p) (addf (subf (tbl _) (tbl _)) (subf (tbl _) q))) (tbl _)))
    (next_weight 8) rfl).trans ?_
  refine (congrArg (addf (tbl Z)) (cheb_step A (weight 9) _ _ _)).trans ?_
  funext y
  idx_vars y
  pointwise []
  simp only [tbl_ix, ← EReal.coe_add]
  rfl

/-- One trip keeps the matrix and the labels and refines the iterate. -/
theorem trip_carries : Carries (STEP V0) A Y (refine (mul A) Y Z) where
  mat := (STEP_main_v64_0 V0).trans h.mat
  lab := (STEP_main_v64_1 V0).trans h.lab
  it := (STEP_main_v64_4 V0).trans (trip h)

/-- So do several. -/
theorem trips (n : ℕ) : Carries (STEP^[n] V0) A Y ((refine (mul A) Y)^[n] Z) := by
  induction n with
  | zero => exact h
  | succ n ih =>
    rw [Function.iterate_succ_apply', Function.iterate_succ_apply']
    exact trip_carries ih

end Cert.ReferenceIdeal.Value

end
-- ==== Proof.RefThreshold.lean ====
/- The reference's threshold: the least of the 21 greatest entries of a row, told by the bounds it is under. -/
module

public import proofs.«01_k».proof.Proof.RefLoop
public import proofs.«01_k».proof.Proof.Threshold
public import Idealize.ShloMosaic.Lib.SortFacts

@[expose] public section

noncomputable section

namespace Cert.ReferenceIdeal.Value

open Idealize.ShloMosaic Idealize.ShloMosaic.TcCoe Idealize.SL.Sem
open Cert.ReferenceIdeal Cert.ReferenceIdeal.Gen Cert.Spec Cert.Consts Cert.Threshold

set_option maxRecDepth 16384

/-- The order the entries of row `i` are sorted by. -/
def before (x : FVec Ideal S2100x2100 .f32) (i : Fin 2100) (k k' : Fin 2100) : Bool :=
  FloatOps.cmpfTotal (F := Ideal) (φ := .f32) .gt (x (ix2 i k)) (x (ix2 i k')) == 1#1

/-- The entry at place `k` along the row of an entry. -/
theorem along_ix (i j k : Fin 2100) : (ix2 i j : S2100x2100.Idx).along 1 k = ix2 i k := by
  funext a
  fin_cases a <;> rfl

/-- The 21 greatest of a row are the first 21 of the row sorted. -/
theorem topk_row (x : FVec Ideal S2100x2100 .f32) (i : Fin 2100) (k : Fin 21) :
    (Host.topK S2100x21 1 (FloatOps.cmpfTotal .gt) x sliceFits_S2100x2100_S2100x21).1 (ix2 i k)
      = x (ix2 i (sortedFrom (before x i) ⟨k.val, by omega⟩)) := by
  have e : ∀ j : Fin 2100, (Host.sort2 S2100x2100 1 (fun l r => FloatOps.cmpfTotal (F := Ideal) (φ := .f32) .gt l.1 r.1) x (iotaInDim S2100x2100 32 1)).1 (ix2 i j)
      = x (ix2 i (sortedFrom (before x i) j)) := by
    intro j
    unfold Host.sort2
    rw [dif_pos (by decide)]
    refine (congrArg x (along_ix i j _)).trans ?_
    refine congrArg (fun B => x (ix2 i (sortedFrom B j))) ?_
    funext k k'
    exact congrArg₂ (fun a b => FloatOps.cmpfTotal (F := Ideal) (φ := .f32) .gt (x a) (x b) == 1#1) (along_ix i j k) (along_ix i j k')
  refine Eq.trans ?_ (e ⟨k.val, by omega⟩)
  unfold Host.topK
  dsimp only
  refine Eq.trans (congrFun (congrArg Prod.fst (congrArg (Host.sort2 S2100x2100 1 _ x) ?_)) _) (congrArg _ ?_)
  · funext y
    rfl
  · funext a
    fin_cases a
    · exact Fin.ext (Nat.zero_add _)
    · exact Fin.ext (Nat.zero_add _)

/-- The sorting order is that of the extended reals, greatest first. -/
theorem before_coe (x : FVec Ideal S2100x2100 .f32) (i k k' : Fin 2100) : before x i k k' = decide (x (ix2 i k') < x (ix2 i k)) := by
  unfold before
  show (BitVec.ofBool (decide (x (ix2 i k') < x (ix2 i k))) == 1#1) = _
  by_cases h : x (ix2 i k') < x (ix2 i k)
  · simp [h]
  · simp [h]

/-- THE THRESHOLD of row `i`. -/
theorem thresh_le (x : FVec Ideal S2100x2100 .f32) (i : Fin 2100) (v : EReal) :
    (Host.reduce FloatOps.minimumf (Host.topK S2100x21 1 (FloatOps.cmpfTotal .gt) x sliceFits_S2100x2100_S2100x21).1
      (constant (F := Ideal) S_ .f32 0x7F800000#32) reducesTo_S2100x21_S2100_d1 h_S_ : FVec Ideal S2100 .f32) (ix1 i) ≤ v
      ↔ above (fun j => x (ix2 i j)) v < 21 := by
  refine sorted_selects (fun j => x (ix2 i j)) (sortedFrom (before x i)) ⟨sortedFrom_injective _, sortedFrom_surjective _⟩ ?_ 21 (by decide) _ v ?_
  · intro a b hab
    have h := sortedFrom_noInversion (before x i) (before x i) (fun a b h => by
        rw [before_coe] at h ⊢
        simpa using (of_decide_eq_true h).le) (fun _ _ h => h) (fun a b c h h' => by
        rw [before_coe] at h h' ⊢
        simp only [decide_eq_false_iff_not, not_lt] at h h' ⊢
        exact h.trans h') a b hab
    rw [before_coe] at h
    simpa using h
  · generalize hT : (Host.topK S2100x21 1 (FloatOps.cmpfTotal .gt) x sliceFits_S2100x2100_S2100x21).1 = T
    have hr : ∀ k : Fin 21, T (ix2 i k) = x (ix2 i (sortedFrom (before x i) ⟨k.val, by omega⟩)) := fun k => by
      rw [← hT]; exact topk_row x i k
    have hm : (Host.reduce FloatOps.minimumf T (constant (F := Ideal) S_ .f32 0x7F800000#32) reducesTo_S2100x21_S2100_d1 h_S_ : FVec Ideal S2100 .f32) (ix1 i)
        = Finset.univ.fold min (⊤ : EReal) (fun k : Fin 21 => T (ix2 i k)) := by
      pointwise []
      rw [c_inf]
    rw [hm]
    rw [Finset.fold_min_le]
    constructor
    · rintro (h | ⟨k, -, h⟩)
      · exact ⟨⟨0, by decide⟩, by decide, (le_top).trans h⟩
      · exact ⟨⟨k.val, by omega⟩, k.isLt, by rw [← hr]; exact h⟩
    · rintro ⟨k, hk, h⟩
      exact Or.inr ⟨⟨k.val, hk⟩, Finset.mem_univ _, by rw [hr]; exact h⟩

end Cert.ReferenceIdeal.Value

end
-- ==== Proof.RefPrep.lean ====
/- What the reference builds before its loop, over the extended reals and from tables of reals: the neighbour mask, the
   affinity, the degrees, the matrix of the system, the one-hot labels. -/
module

public import proofs.«01_k».proof.Proof.RefThreshold
public import Idealize.ShloMosaic.Lib.Routing.OpsPair
public import Idealize.ShloMosaic.Lib.Routing.OpsSet

@[expose] public section

noncomputable section

namespace Cert.ReferenceIdeal.Value

open Idealize.ShloMosaic Idealize.ShloMosaic.TcCoe Idealize.SL.Sem
open Cert.ReferenceIdeal Cert.ReferenceIdeal.Gen Cert.Spec Cert.Consts Cert.Threshold Idealize.ShloMosaic.Routing

set_option maxRecDepth 16384

/-- A vector of reals as extended reals. -/
def vec (w : Fin 2100 → ℝ) : FVec Ideal S2100 .f32 := fun y => ((w (y 0) : ℝ) : EReal)

/-- An entry of the vector. -/
theorem vec_ix (w : Fin 2100 → ℝ) (i : Fin 2100) : vec w (ix1 i) = ((w i : ℝ) : EReal) := rfl

/-- A vector of extended reals as an array. -/
def vecE (w : Fin 2100 → EReal) : FVec Ideal S2100 .f32 := fun y => w (y 0)

/-- An entry of the vector. -/
theorem vecE_ix (w : Fin 2100 → EReal) (i : Fin 2100) : vecE w (ix1 i) = w i := rfl

/-- A square table of extended reals as an array. -/
def sqE (w : Fin 2100 → Fin 2100 → EReal) : FVec Ideal S2100x2100 .f32 := fun y => w (y 0) (y 1)

/-- An entry of the square. -/
theorem sqE_ix (w : Fin 2100 → Fin 2100 → EReal) (i j : Fin 2100) : sqE w (ix2 i j) = w i j := rfl

/-- The Gram matrix of the stacked rows. -/
theorem gram_eq (x0 : FVec Ideal S100x768 .f32) (x2 : FVec Ideal S2000x768 .f32) (a : Fin 100 → Fin 768 → EReal) (q : Fin 2000 → Fin 768 → EReal)
    (h0 : ∀ i k, x0 (ix2 i k) = a i k) (h2 : ∀ i k, x2 (ix2 i k) = q i k) :
    Host.dotGeneral dot_S2100x768_S768x2100_S2100x2100_1_0_0_1_n_n none
      (concatenate S2100x768 0 [⟨S100x768, x0⟩, ⟨S2000x768, x2⟩] concatenates_S100x768_S2000x768_S2100x768_d0)
      (transpose S768x2100 [1, 0] (concatenate S2100x768 0 [⟨S100x768, x0⟩, ⟨S2000x768, x2⟩] concatenates_S100x768_S2000x768_S2100x768_d0)
        transposes_S2100x768_S768x2100_1_0) = sqE (gram (stack a q)) := by
  have hs : ∀ i k, concatenate S2100x768 0 [⟨S100x768, x0⟩, ⟨S2000x768, x2⟩] concatenates_S100x768_S2000x768_S2100x768_d0 (ix2 i k)
      = stack a q i k := by
    intro i k
    pointwise []
    unfold stack
    split
    · exact h0 _ _
    · exact h2 _ _
  generalize concatenate S2100x768 0 [⟨S100x768, x0⟩, ⟨S2000x768, x2⟩] concatenates_S100x768_S2000x768_S2100x768_d0 = x at hs
  funext y
  idx_vars y
  pointwise []
  simp only [hs]
  rfl

/-- A truth value read as a number. -/
theorem truth (p : Prop) [Decidable p] :
    FloatOps.uitofp (F := Ideal) .f32 (BitVec.ofBool (decide p)) = (((if p then 1 else 0 : ℝ)) : EReal) := by
  by_cases h : p
  · rw [if_pos h, decide_eq_true h]
    show (((1#1 : BitVec 1).toNat : ℝ) : EReal) = _
    norm_num
  · rw [if_neg h, decide_eq_false h]
    show (((0#1 : BitVec 1).toNat : ℝ) : EReal) = _
    norm_num

/-- The identity matrix. -/
theorem eye_eq : uitofp (F := Ideal) .f32 (cmpi .eq
      (addi (iotaInDim S2100x2100 32 0) (broadcastInDim S2100x2100 ![] bcast_S_S2100x2100 (constantI S_ 32 0#32)))
      (iotaInDim S2100x2100 32 1)) = sq (fun i j => if i = j then 1 else 0) := by
  funext y
  idx_vars y
  pointwise []
  rw [sq_ix, ← truth]
  refine congrArg _ ?_
  show BitVec.ofBool (BitVec.ofNat 32 y0.val + 0#32 == BitVec.ofNat 32 y1.val) = _
  refine congrArg _ ?_
  rw [BitVec.add_zero, Bool.eq_iff_iff, beq_iff_eq, decide_eq_true_iff]
  refine ⟨fun h => Fin.ext ?_, fun h => by rw [h]⟩
  have := congrArg BitVec.toNat h
  rw [BitVec.toNat_ofNat, BitVec.toNat_ofNat, Nat.mod_eq_of_lt (by omega), Nat.mod_eq_of_lt (by omega)] at this
  exact this

/-- The neighbour mask. -/
theorem mask_eq (X : Fin 2100 → Fin 768 → EReal) :
    uitofp (F := Ideal) .f32 (cmpf .oge (sqE (gram X)) (broadcastInDim S2100x2100 ![0, 1] bcast_S2100x1_S2100x2100_0_1
      (broadcastInDim S2100x1 ![0] bcast_S2100_S2100x1_0
        (Host.reduce FloatOps.minimumf (Host.topK S2100x21 1 (FloatOps.cmpfTotal .gt) (sqE (gram X)) sliceFits_S2100x2100_S2100x21).1
          (constant (F := Ideal) S_ .f32 0x7F800000#32) reducesTo_S2100x21_S2100_d1 h_S_))))
      = sq (fun i j => if near X i j then 1 else 0) := by
  have ht := thresh_le (sqE (gram X))
  generalize (Host.reduce FloatOps.minimumf (Host.topK S2100x21 1 (FloatOps.cmpfTotal .gt) (sqE (gram X)) sliceFits_S2100x2100_S2100x21).1
          (constant (F := Ideal) S_ .f32 0x7F800000#32) reducesTo_S2100x21_S2100_d1 h_S_ : FVec Ideal S2100 .f32) = t at ht
  funext y
  idx_vars y
  pointwise []
  rw [sqE_ix, sq_ix, ← truth]
  refine congrArg _ ?_
  have e : t (ix1 y0) ≤ gram X y0 y1 ↔ near X y0 y1 := ht y0 _
  exact congrArg BitVec.ofBool (decide_eq_decide.2 e)

/-- The positive part. -/
theorem relu_eq (w : Fin 2100 → Fin 2100 → EReal) :
    maximumf (sqE w) (broadcastInDim S2100x2100 ![] bcast_S_S2100x2100 (constant (F := Ideal) S_ .f32 0x00000000#32))
      = sqE (fun i j => max (w i j) 0) := by
  funext y
  idx_vars y
  pointwise []
  rfl

/-- The cube of the masked positive part. -/
theorem cube_eq (X : Fin 2100 → Fin 768 → EReal) :
    Host.powf (mulf (sq (fun i j => if near X i j then 1 else 0)) (sqE (fun i j => max (gram X i j) 0)))
      (broadcastInDim S2100x2100 ![] bcast_S_S2100x2100 (constant (F := Ideal) S_ .f32 0x40400000#32)) = sqE (cube X) := by
  funext y
  idx_vars y
  pointwise []
  simp only [sq_ix, sqE_ix]
  rw [c_three]
  have e : ∀ r : ℝ, Real.rpow r 3 = r * r * r := fun r => by
    have := Real.rpow_natCast r 3
    rw [pow_three] at this
    rw [mul_assoc, ← this]
    norm_num
  unfold cube
  split
  · rw [EReal.coe_one, one_mul]
    have h0 : 0 ≤ max (gram X y0 y1) 0 := le_max_right _ _
    generalize max (gram X y0 y1) 0 = g at h0
    by_cases h : g = ⊤
    · subst h
      refine (Ideal.pow_top _).trans ?_
      rw [if_pos (by exact_mod_cast (by norm_num : (0 : ℝ) < 3))]
      simp
    · rw [← coe_of_nonneg h0 h]
      refine (Ideal.pow_coe_coe _ _).trans ?_
      rw [e, EReal.coe_mul, EReal.coe_mul]
  · rw [EReal.coe_zero, zero_mul, ← EReal.coe_zero]
    refine (Ideal.pow_coe_coe _ _).trans ?_
    rw [e, mul_zero]

/-- The affinity. -/
theorem aff_eq (X : Fin 2100 → Fin 768 → EReal) :
    mulf (addf (sqE (cube X)) (transpose S2100x2100 [1, 0] (sqE (cube X)) transposes_S2100x2100_S2100x2100_1_0))
      (subf (broadcastInDim S2100x2100 ![] bcast_S_S2100x2100 (constant (F := Ideal) S_ .f32 0x3F800000#32))
        (sq (fun i j => if i = j then 1 else 0))) = sqE (affE X) := by
  funext y
  idx_vars y
  pointwise []
  simp only [sq_ix, sqE_ix]
  rw [show (1 : EReal) = ((1 : ℝ) : EReal) from rfl, ← EReal.coe_sub]
  unfold affE
  split <;> simp

/-- The degrees. -/
theorem deg_eq (X : Fin 2100 → Fin 768 → EReal) :
    Host.reduceAdd (sqE (affE X)) (constant (F := Ideal) S_ .f32 0x00000000#32) reducesTo_S2100x2100_S2100_d1 h_S_ = vecE (deg X) := by
  funext y
  idx_vars y
  pointwise []
  rfl

/-- The degrees, a zero read as 1. -/
theorem deg1_eq (X : Fin 2100 → Fin 768 → EReal) :
    select (cmpf .oeq (vecE (deg X)) (broadcastInDim S2100 ![] bcast_S_S2100 (constant (F := Ideal) S_ .f32 0x00000000#32)))
      (broadcastInDim S2100 ![] bcast_S_S2100 (constant (F := Ideal) S_ .f32 0x3F800000#32)) (vecE (deg X)) = vecE (deg1 X) := by
  funext y
  idx_vars y
  pointwise []
  simp only [vecE_ix]
  unfold deg1
  by_cases h : deg X y0 = 0
  · rw [if_pos h]
    exact if_pos h
  · rw [if_neg h]
    exact if_neg h

/-- The scaling. -/
theorem dinv_eq (X : Fin 2100 → Fin 768 → EReal) :
    Host.divf (broadcastInDim S2100 ![] bcast_S_S2100 (constant (F := Ideal) S_ .f32 0x3F800000#32)) (Host.sqrt (vecE (deg1 X))) = vec (dinv X) := by
  funext y
  idx_vars y
  pointwise []
  simp only [vec_ix, vecE_ix]
  have hp := deg1_pos X y0
  unfold dinv
  generalize deg1 X y0 = d at hp
  by_cases h : d = ⊤
  · subst h
    rw [Ideal.sqrt_top]
    simp [Ideal.div]
  · have e := coe_of_nonneg hp.le h
    have hr : 0 < d.toReal := EReal.coe_pos.1 (by rw [e]; exact hp)
    rw [← e, Ideal.sqrt_coe, if_neg (not_lt.2 hr.le), EReal.toReal_coe]
    refine (Ideal.div_coe (Real.sqrt_pos.2 hr).ne' _).trans ?_
    rw [one_mul, one_div]

/-- The matrix of the system. -/
def mat (X : Fin 2100 → Fin 768 → EReal) (i j : Fin 2100) : ℝ := (if i = j then 1 else 0) - 4 / 5 * (aff X i j * dinv X i * dinv X j)

/-- The matrix of the system, as the reference builds it. -/
theorem mat_eq (X : Fin 2100 → Fin 768 → EReal) :
    subf (sq (fun i j => if i = j then 1 else 0))
      (mulf (broadcastInDim S2100x2100 ![] bcast_S_S2100x2100 (Host.divf (constant (F := Ideal) S_ .f32 0x40800000#32) (constant S_ .f32 0x40A00000#32)))
        (mulf (mulf (sqE (affE X)) (broadcastInDim S2100x2100 ![0, 1] bcast_S2100x1_S2100x2100_0_1
            (broadcastInDim S2100x1 ![0] bcast_S2100_S2100x1_0 (vec (dinv X)))))
          (broadcastInDim S2100x2100 ![0, 1] bcast_S1x2100_S2100x2100_0_1 (broadcastInDim S1x2100 ![1] bcast_S2100_S1x2100_1 (vec (dinv X))))))
      = sq (mat X) := by
  funext y
  idx_vars y
  pointwise []
  simp only [sq_ix, sqE_ix, vec_ix]
  have hs : affE X y0 y1 * ((dinv X y0 : ℝ) : EReal) * ((dinv X y1 : ℝ) : EReal) = ((aff X y0 y1 * dinv X y0 * dinv X y1 : ℝ) : EReal) := by
    rw [mul_assoc, mul_comm ((dinv X y0 : ℝ) : EReal), ← EReal.coe_mul, affE_mul]
    refine congrArg _ ?_
    ring
  rw [hs, c_four, c_five, Ideal.div_coe (by norm_num), ← EReal.coe_mul, ← EReal.coe_mul, ← EReal.coe_sub]
  refine congrArg _ ?_
  unfold mat
  ring

/-- The matrix times a table is the system. -/
theorem mul_mat (X : Fin 2100 → Fin 768 → EReal) : mul (mat X) = sys (aff X) (dinv X) := by
  funext v i l
  unfold mul sys mat
  simp only [sub_mul, Finset.sum_sub_distrib, ite_mul, one_mul, zero_mul, Finset.sum_ite_eq, Finset.mem_univ, if_true]
  refine congrArg (v i l - ·) ?_
  rw [Finset.mul_sum, Finset.mul_sum]
  exact Finset.sum_congr rfl fun j _ => by ring

/-! ## The labels -/

/-- The row a label is written to is its own. -/
theorem label_row (k : Fin 100) : (select (cmpi .slt (iotaInDim S100 32 0) (broadcastInDim S100 ![] bcast_S_S100 (constantI S_ 32 0#32)))
    (addi (iotaInDim S100 32 0) (broadcastInDim S100 ![] bcast_S_S100 (constantI S_ 32 2100#32))) (iotaInDim S100 32 0) : IVec S100 32) (ix1 k)
      = BitVec.ofNat 32 k.val := by
  pointwise []
  exact wrap_of_lt _ _ (by rw [BitVec.toNat_ofNat, Nat.mod_eq_of_lt (by omega)]; omega)

/-- The column a label is written to is its class. -/
theorem label_col (x1 : IVec S100 32) (k : Fin 100) (l : Fin 20) (h : x1 (ix1 k) = BitVec.ofNat 32 l.val) :
    (select (cmpi .slt x1 (broadcastInDim S100 ![] bcast_S_S100 (constantI S_ 32 0#32)))
      (addi x1 (broadcastInDim S100 ![] bcast_S_S100 (constantI S_ 32 20#32))) x1) (ix1 k) = BitVec.ofNat 32 l.val := by
  pointwise []
  rw [h]
  exact wrap_of_lt _ _ (by rw [BitVec.toNat_ofNat, Nat.mod_eq_of_lt (by omega)]; omega)

/-- A small number read with its sign is itself. -/
theorem small_int (n : ℕ) (h : n < 100) : (BitVec.ofNat 32 n).toInt = (n : ℤ) := by
  rw [BitVec.toInt_eq_toNat_of_lt (by rw [BitVec.toNat_ofNat, Nat.mod_eq_of_lt (by omega)]; omega), BitVec.toNat_ofNat,
    Nat.mod_eq_of_lt (by omega)]

/-- The two columns of places. -/
theorem label_pair (r c : IVec S100 32) (k : Fin 100) (j : Fin 2) : concatenate S100x2 1
        [⟨S100x1, broadcastInDim S100x1 ![0] bcast_S100_S100x1_0 r⟩, ⟨S100x1, broadcastInDim S100x1 ![0] bcast_S100_S100x1_0 c⟩]
        concatenates_S100x1_S100x1_S100x2_d1 (ix2 k j) = if j.val < 1 then r (ix1 k) else c (ix1 k) := by
  pointwise []
  split <;> rfl

/-- Where the label of support row `k` is written. -/
theorem label_lands (r c : IVec S100 32) (k : Fin 100) (l : Fin 20) (hr : r (ix1 k) = BitVec.ofNat 32 k.val) (hc : c (ix1 k) = BitVec.ofNat 32 l.val)
    (i : Fin 2100) (j : Fin 20) :
    scatter_S2100x20_S100x2_S100_n_01_01_1.resultIdx? (ix1 k) (concatenate S100x2 1
        [⟨S100x1, broadcastInDim S100x1 ![0] bcast_S100_S100x1_0 r⟩, ⟨S100x1, broadcastInDim S100x1 ![0] bcast_S100_S100x1_0 c⟩]
        concatenates_S100x1_S100x1_S100x2_d1) = some (ix2 i j) ↔ k.val = i.val ∧ l = j := by
  have h0 : concatenate S100x2 1
        [⟨S100x1, broadcastInDim S100x1 ![0] bcast_S100_S100x1_0 r⟩, ⟨S100x1, broadcastInDim S100x1 ![0] bcast_S100_S100x1_0 c⟩]
        concatenates_S100x1_S100x1_S100x2_d1 (ix2 k 0) = BitVec.ofNat 32 k.val := by
    exact (label_pair r c k 0).trans hr
  have h1 : concatenate S100x2 1
        [⟨S100x1, broadcastInDim S100x1 ![0] bcast_S100_S100x1_0 r⟩, ⟨S100x1, broadcastInDim S100x1 ![0] bcast_S100_S100x1_0 c⟩]
        concatenates_S100x1_S100x1_S100x2_d1 (ix2 k 1) = BitVec.ofNat 32 l.val := by
    exact (label_pair r c k 1).trans hc
  generalize concatenate S100x2 1
        [⟨S100x1, broadcastInDim S100x1 ![0] bcast_S100_S100x1_0 r⟩, ⟨S100x1, broadcastInDim S100x1 ![0] bcast_S100_S100x1_0 c⟩]
        concatenates_S100x1_S100x1_S100x2_d1 = t at h0 h1
  refine (resultIdx?_ix2 _ (ix1 k) t i j).trans ?_
  have s0 : scatter_S2100x20_S100x2_S100_n_01_01_1.start (ix1 k) t 0 = (k.val : ℤ) := by
    unfold ScatterDims.start
    rw [dif_pos (by decide)]
    refine (congrArg (fun x => (t x).toInt) (?_ : _ = ix2 k 0)).trans (by rw [h0]; exact small_int _ (by omega))
    funext b
    fin_cases b <;> exact Fin.ext rfl
  have s1 : scatter_S2100x20_S100x2_S100_n_01_01_1.start (ix1 k) t 1 = (l.val : ℤ) := by
    unfold ScatterDims.start
    rw [dif_pos (by decide)]
    refine (congrArg (fun x => (t x).toInt) (?_ : _ = ix2 k 1)).trans (by rw [h1]; exact small_int _ (by omega))
    funext b
    fin_cases b <;> exact Fin.ext rfl
  have w0 : scatter_S2100x20_S100x2_S100_n_01_01_1.window (ix1 k) 0 = 0 := rfl
  have w1 : scatter_S2100x20_S100x2_S100_n_01_01_1.window (ix1 k) 1 = 0 := rfl
  rw [s0, s1, w0, w1]
  constructor
  · rintro ⟨a, b⟩
    exact ⟨by omega, Fin.ext (by omega)⟩
  · rintro ⟨a, rfl⟩
    exact ⟨by omega, by omega⟩

/-- The labels written as ones into zeros are the one-hot table. -/
theorem labels_eq (x1 : IVec S100 32) (lab : Fin 100 → BitVec 32) (h : ∀ i, x1 (ix1 i) = lab i) (hs : Small lab) :
    Host.scatter scatter_S2100x20_S100x2_S100_n_01_01_1 (fun _ b => b)
      (broadcastInDim S2100x20 ![] bcast_S_S2100x20 (constant (F := Ideal) S_ .f32 0x00000000#32))
      (concatenate S100x2 1
        [⟨S100x1, broadcastInDim S100x1 ![0] bcast_S100_S100x1_0
            (select (cmpi .slt (iotaInDim S100 32 0) (broadcastInDim S100 ![] bcast_S_S100 (constantI S_ 32 0#32)))
              (addi (iotaInDim S100 32 0) (broadcastInDim S100 ![] bcast_S_S100 (constantI S_ 32 2100#32))) (iotaInDim S100 32 0))⟩,
          ⟨S100x1, broadcastInDim S100x1 ![0] bcast_S100_S100x1_0
            (select (cmpi .slt x1 (broadcastInDim S100 ![] bcast_S_S100 (constantI S_ 32 0#32)))
              (addi x1 (broadcastInDim S100 ![] bcast_S_S100 (constantI S_ 32 20#32))) x1)⟩]
        concatenates_S100x1_S100x1_S100x2_d1)
      (broadcastInDim S100 ![] bcast_S_S100 (constant (F := Ideal) S_ .f32 0x3F800000#32)) = tbl (hot lab) := by
  choose l hl using hs
  have lands := fun k => label_lands _ _ k (l k) (label_row k) (label_col x1 k (l k) ((h k).trans (hl k)))
  have upd : ∀ k : S100.Idx, (broadcastInDim S100 ![] bcast_S_S100 (constant (F := Ideal) S_ .f32 0x3F800000#32) : FVec Ideal S100 .f32) k = ((1 : ℝ) : EReal) := by
    intro k
    idx_vars k
    pointwise []
    rfl
  have small : ∀ a b : Fin 20, BitVec.ofNat 32 a.val = BitVec.ofNat 32 b.val ↔ a = b := fun a b => by
    refine ⟨fun h => Fin.ext ?_, fun h => by rw [h]⟩
    have := congrArg BitVec.toNat h
    rw [BitVec.toNat_ofNat, BitVec.toNat_ofNat, Nat.mod_eq_of_lt (by omega), Nat.mod_eq_of_lt (by omega)] at this
    exact this
  funext y
  idx_vars y
  rw [tbl_ix]
  have z : (broadcastInDim S2100x20 ![] bcast_S_S2100x20 (constant (F := Ideal) S_ .f32 0x00000000#32) : FVec Ideal S2100x20 .f32) (ix2 y0 y1) = ((0 : ℝ) : EReal) := by
    pointwise []
    rfl
  by_cases hi : y0.val < 100
  · by_cases hc : l ⟨y0.val, hi⟩ = y1
    · refine (scatter_set_hit _ _ _ _ _ ((1 : ℝ) : EReal) (fun k _ => upd k) (ix1 ⟨y0.val, hi⟩) ((lands _ _ _).2 ⟨rfl, hc⟩)).trans ?_
      unfold hot
      rw [dif_pos hi, if_pos (by rw [hl, hc])]
    · refine (scatter_set_miss _ _ _ _ _ fun k hk => ?_).trans (z.trans ?_)
      · idx_vars k
        have q := (lands k0 y0 y1).1 hk
        have e : k0 = ⟨y0.val, hi⟩ := Fin.ext q.1
        exact hc (e ▸ q.2)
      · unfold hot
        rw [dif_pos hi, if_neg (by rw [hl, small]; exact hc)]
  · refine (scatter_set_miss _ _ _ _ _ fun k hk => ?_).trans (z.trans ?_)
    · idx_vars k
      have q := (lands k0 y0 y1).1 hk
      omega
    · unfold hot
      rw [dif_neg hi]

end Cert.ReferenceIdeal.Value

end
-- ==== Proof.RefEnd.lean ====
/- The reference's results, from the table of scores its loop leaves. -/
module

public import proofs.«01_k».proof.Proof.RefLoop
public import proofs.«01_k».proof.Proof.Results
public import Idealize.ShloMosaic.Lib.Routing.OpsPair
public import Idealize.ShloMosaic.Lib.Routing.OpsSet

@[expose] public section

noncomputable section

namespace Cert.ReferenceIdeal.Value

open Idealize.ShloMosaic Idealize.ShloMosaic.TcCoe Idealize.SL.Sem
open Cert.ReferenceIdeal Cert.ReferenceIdeal.Gen Cert.Spec Cert.Consts Idealize.ShloMosaic.Routing

set_option maxRecDepth 16384

/-- A negative entry replaced by zero. -/
theorem cut_eq (v : Fin 2100 → Fin 20 → ℝ) :
    select (cmpf .olt (tbl v) (broadcastInDim S2100x20 ![] bcast_S_S2100x20 (constant S_ .f32 0x00000000#32)))
      (broadcastInDim S2100x20 ![] bcast_S_S2100x20 (id (constant S_ .f32 0x00000000#32))) (tbl v)
      = tbl (fun i l => max (v i l) 0) := by
  funext y
  idx_vars y
  pointwise []
  simp only [tbl_ix]
  have z : (id (constant (F := Ideal) S_ .f32 0x00000000#32) ix0 : EReal) = 0 := Ideal.ofBits_zero_f32
  rw [z]
  by_cases h : v y0 y1 < 0
  · rw [max_eq_right h.le]
    exact if_pos (EReal.coe_neg'.2 h)
  · rw [max_eq_left (not_lt.1 h)]
    exact if_neg (fun e => h (EReal.coe_neg'.1 e))

/-- A table that is nowhere negative is not changed by it. -/
theorem cut_nonneg (v : Fin 2100 → Fin 20 → ℝ) (hv : ∀ i l, 0 ≤ v i l) : (fun i l => max (v i l) 0) = v := by
  funext i l
  exact max_eq_left (hv i l)

/-- A row divided by its total. -/
theorem div_eq (s : Fin 2100 → Fin 20 → ℝ) :
    Host.divf (tbl (fun i l => max (s i l) 0)) (broadcastInDim S2100x20 ![0, 1] bcast_S2100x1_S2100x20_0_1
      (maximumf (broadcastInDim S2100x1 ![0] bcast_S2100_S2100x1_0
        (Host.reduceAdd (Host.absf (tbl (fun i l => max (s i l) 0))) (constant S_ .f32 0x00000000#32) reducesTo_S2100x20_S2100_d1 h_S_))
        (broadcastInDim S2100x1 ![] bcast_S_S2100x1 (constant S_ .f32 0x2B8CBCCC#32)))) = tbl (prob s) := by
  funext y
  idx_vars y
  pointwise []
  simp only [tbl_ix]
  have a : ∀ l : Fin 20, FloatOps.absf (F := Ideal) (φ := .f32) ((max (s y0 l) 0 : ℝ) : EReal) = ((max (s y0 l) 0 : ℝ) : EReal) := fun l => by
    show max ((max (s y0 l) 0 : ℝ) : EReal) (-((max (s y0 l) 0 : ℝ) : EReal)) = _
    rw [← EReal.coe_neg, ← coe_max]
    exact congrArg _ (max_eq_left ((neg_nonpos.2 (le_max_right _ _)).trans (le_max_right _ _)))
  simp only [a]
  rw [c_eps, ← coe_sum, ← coe_max]
  refine (Ideal.div_coe (total_pos s y0).ne' _).trans ?_
  rw [← EReal.coe_mul]
  refine congrArg (fun r : ℝ => (r : EReal)) ?_
  show _ = zpos s y0 y1 / total s y0
  rw [div_eq_mul_one_div (zpos s y0 y1)]
  rfl

/-- The greatest entry of a row. -/
theorem row_max (v : Fin 2100 → Fin 20 → ℝ) (i : Fin 2100) :
    Host.reduce FloatOps.maximumf (tbl v) (constant (F := Ideal) S_ .f32 0xFF800000#32) reducesTo_S2100x20_S2100_d1 h_S_ (ix1 i)
      = Finset.univ.fold max ⊥ (fun l => ((v i l : ℝ) : EReal)) := by
  pointwise []
  simp only [tbl_ix, c_neg_inf]

/-- The least index among the greatest entries of a row. -/
theorem least_row (s : Fin 2100 → Fin 20 → ℝ) (i : Fin 2100) :
    Host.reduce IntOp.minsi
      (select (cmpf .oeq (tbl (prob s)) (broadcastInDim S2100x20 ![0, 1] bcast_S2100x1_S2100x20_0_1
          (broadcastInDim S2100x1 ![0] bcast_S2100_S2100x1_0
            (Host.reduce FloatOps.maximumf (tbl (prob s)) (constant S_ .f32 0xFF800000#32) reducesTo_S2100x20_S2100_d1 h_S_))))
        (broadcastInDim S2100x20 ![1] bcast_S20_S2100x20_1 (iotaInDim S20 32 0))
        (broadcastInDim S2100x20 ![] bcast_S_S2100x20 (id (constantI S_ 32 20#32))))
      (constantI S_ 32 2147483647#32) reducesTo_S2100x20_S2100_d1 h_S_ (ix1 i) = BitVec.ofNat 32 (best s i).val := by
  pointwise []
  simp only [tbl_ix, c_neg_inf]
  exact prob_least s i

variable {V0 : Valuation τ sig (Elt Ideal)} {s : Fin 2100 → Fin 20 → ℝ}
  (h : (V0 (Proc.devRef .tc main_v64_4) : FVec Ideal S2100x20 .f32) = tbl s)

/-- The row of a query. -/
abbrev queryRow (y : Fin 2000) : Fin 2100 := ⟨100 + y.val, by omega⟩

/-- The queries' part of a column. -/
theorem queries {α : Type} (r : S2100.Idx → α) (y : Fin 2000) :
    extractStridedSlice S2000 ![100] r slices_S2100_S2000_100 (ix1 y) = r (ix1 (queryRow y)) := by
  refine congrArg r ?_
  funext a
  fin_cases a
  rfl

/-- The queries' part of a column, times -1. -/
theorem negated (r : FVec Ideal S2100 .f32) (y : Fin 2000) :
    mulf (broadcastInDim S2000 ![] bcast_S_S2000 (constant S_ .f32 0xBF800000#32)) (extractStridedSlice S2000 ![100] r slices_S2100_S2000_100) (ix1 y)
      = ((-1 : ℝ) : EReal) * r (ix1 (queryRow y)) := by
  rw [← queries r y, ← c_neg_one]
  rfl

/-- The given labels are written on rows before every query's. -/
theorem labels_above (k : S100.Idx) (y : Fin 2000) :
    scatter_S2100_S1_S100_0_n_0_0.resultIdx? k (fun _ => 0#32) ≠ some (ix1 (queryRow y)) := by
  intro e
  have e := (resultIdx?_ix1 _ k _ _).1 e
  have z : scatter_S2100_S1_S100_0_n_0_0.start k (fun _ => 0#32) 0 = 0 := by
    unfold ScatterDims.start
    split <;> rfl
  have w : scatter_S2100_S1_S100_0_n_0_0.window k 0 = (k 0).val := rfl
  rw [z, w] at e
  have q : (k 0).val < 100 := (k 0).isLt
  have : ((queryRow y).val : ℤ) = 100 + y.val := rfl
  omega

include h

/-- THE NEGATED GREATEST SCORES. -/
theorem out_amax (y : Fin 2000) : (out_main_v71 V0 : FVec Ideal S2000 .f32) (ix1 y)
    = ((-zpos s (queryRow y) (best s (queryRow y)) : ℝ) : EReal) := by
  unfold out_main_v71
  rw [h, cut_eq]
  refine (negated _ y).trans ?_
  rw [row_max]
  refine (congrArg (fun t : EReal => ((-1 : ℝ) : EReal) * t) (zpos_max s (queryRow y))).trans ?_
  rw [← EReal.coe_mul, neg_one_mul]

/-- THE PROBABILITIES. -/
theorem out_probs (y : Fin 2000) (l : Fin 20) : (out_main_v92 V0 : FVec Ideal S2000x20 .f32) (ix2 y l)
    = ((prob s (queryRow y) l : ℝ) : EReal) := by
  unfold out_main_v92
  rw [h, cut_eq, div_eq, cut_eq, cut_nonneg _ (prob_nonneg s)]
  pointwise []
  rfl

/-- THE LABELS. -/
theorem out_labels (y : Fin 2000) : (out_main_v91 V0 : IVec S2000 32) (ix1 y) = BitVec.ofNat 32 (best s (queryRow y)).val := by
  unfold out_main_v91
  rw [h, cut_eq, div_eq, cut_eq, cut_nonneg _ (prob_nonneg s)]
  rw [show (broadcastInDim S1 ![] bcast_S_S1 (constantI S_ 32 0#32) : IVec S1 32) = fun _ => 0#32 from rfl]
  refine (queries _ y).trans ((scatter_set_miss _ _ _ _ _ fun k => labels_above k y).trans ?_)
  exact least_row s (queryRow y)

end Cert.ReferenceIdeal.Value

end
-- ==== Proof.RefValue.lean ====
/- The reference's results: its first operations read in order, then the loop and the operations
   after it. -/
module

public import proofs.«01_k».proof.Proof.RefPrep
public import proofs.«01_k».proof.Proof.RefEnd
public import Idealize.ShloMosaic.Lib.Claim

@[expose] public section

noncomputable section

namespace Cert.ReferenceIdeal.Value

open Idealize.ShloMosaic Idealize.ShloMosaic.TcCoe Idealize.SL.Sem Idealize.ShloMosaic.StableHlo
open Cert.ReferenceIdeal Cert.ReferenceIdeal.Gen Cert.Spec Cert.Chebyshev Cert.Consts

set_option maxRecDepth 16384

section
variable {σ : Valuation τ sig (Elt Ideal)} {a : Fin 100 → Fin 768 → EReal} {lab : Fin 100 → BitVec 32} {q : Fin 2000 → Fin 768 → EReal}
  {X : Fin 2100 → Fin 768 → EReal}

/-- The Gram matrix. -/
theorem r0_v2 (h0 : ∀ i k, (σ (Proc.devRef .tc main_arg0) : FVec Ideal S100x768 .f32) (ix2 i k) = a i k)
    (h2 : ∀ i k, (σ (Proc.devRef .tc main_arg2) : FVec Ideal S2000x768 .f32) (ix2 i k) = q i k) :
    (after hostOps0 σ (Proc.devRef .tc main_v2) : FVec Ideal S2100x2100 .f32) = sqE (gram (stack a q)) := by
  entry_read
  exact gram_eq _ _ a q h0 h2

/-- The neighbour mask. -/
theorem r0_v7 (h0 : ∀ i k, (σ (Proc.devRef .tc main_arg0) : FVec Ideal S100x768 .f32) (ix2 i k) = a i k)
    (h2 : ∀ i k, (σ (Proc.devRef .tc main_arg2) : FVec Ideal S2000x768 .f32) (ix2 i k) = q i k) :
    (after hostOps0 σ (Proc.devRef .tc main_v7) : FVec Ideal S2100x2100 .f32) = sq (fun i j => if near (stack a q) i j then 1 else 0) := by
  entry_read
  rw [gram_eq _ _ a q h0 h2]
  exact mask_eq _

/-- The positive part. -/
theorem r1_v8 {w : Fin 2100 → Fin 2100 → EReal} (h : (σ (Proc.devRef .tc main_v2) : FVec Ideal S2100x2100 .f32) = sqE w) :
    (after hostOps0_1 σ (Proc.devRef .tc main_v8) : FVec Ideal S2100x2100 .f32) = sqE (fun i j => max (w i j) 0) := by
  entry_read
  show maximumf (F := Ideal) (φ := .f32) (s := S2100x2100) (σ (Proc.devRef .tc main_v2) : FVec Ideal S2100x2100 .f32) _ = _
  rw [h]
  exact relu_eq w

/-- The mask and the positive part are in place. -/
structure Masked (σ : Valuation τ sig (Elt Ideal)) (X : Fin 2100 → Fin 768 → EReal) : Prop where
  mask : (σ (Proc.devRef .tc main_v7) : FVec Ideal S2100x2100 .f32) = sq (fun i j => if near X i j then 1 else 0)
  relu : (σ (Proc.devRef .tc main_v8) : FVec Ideal S2100x2100 .f32) = sqE (fun i j => max (gram X i j) 0)

/-- The affinity. -/
theorem r2_v22 (h : Masked σ X) : (after hostOps0_2 σ (Proc.devRef .tc main_v22) : FVec Ideal S2100x2100 .f32) = sqE (affE X) := by
  entry_read
  rw [h.mask, h.relu, cube_eq, eye_eq]
  exact aff_eq X

/-- The degrees. -/
theorem r2_v23 (h : Masked σ X) : (after hostOps0_2 σ (Proc.devRef .tc main_v23) : FVec Ideal S2100 .f32) = vecE (deg X) := by
  entry_read
  rw [h.mask, h.relu, cube_eq, eye_eq, aff_eq]
  exact deg_eq X

/-- Which degrees are 0. -/
theorem r2_v25 (h : Masked σ X) : (after hostOps0_2 σ (Proc.devRef .tc main_v25) : IVec S2100 1)
    = cmpf .oeq (vecE (deg X)) (broadcastInDim S2100 ![] bcast_S_S2100 (constant (F := Ideal) S_ .f32 0x00000000#32)) := by
  entry_read
  rw [h.mask, h.relu, cube_eq, eye_eq, aff_eq, deg_eq]

/-- The 1 in their place. -/
theorem r2_cst : (after hostOps0_2 σ (Proc.devRef .tc main_cst_4) : FVec Ideal S_ .f32) = (constant (F := Ideal) S_ .f32 0x3F800000#32 : FVec Ideal S_ .f32) := by
  entry_read
  rfl

/-- The degrees, a zero read as 1. -/
theorem r3_v26 (h23 : (σ (Proc.devRef .tc main_v23) : FVec Ideal S2100 .f32) = vecE (deg X))
    (h25 : (σ (Proc.devRef .tc main_v25) : IVec S2100 1)
      = cmpf .oeq (vecE (deg X)) (broadcastInDim S2100 ![] bcast_S_S2100 (constant (F := Ideal) S_ .f32 0x00000000#32)))
    (h4 : (σ (Proc.devRef .tc main_cst_4) : FVec Ideal S_ .f32) = (constant (F := Ideal) S_ .f32 0x3F800000#32 : FVec Ideal S_ .f32)) :
    (after hostOps0_3 σ (Proc.devRef .tc main_v26) : FVec Ideal S2100 .f32) = vecE (deg1 X) := by
  entry_read
  show select (σ (Proc.devRef .tc main_v25) : IVec S2100 1) (broadcastInDim S2100 ![] bcast_S_S2100 (σ (Proc.devRef .tc main_cst_4) : FVec Ideal S_ .f32))
    (σ (Proc.devRef .tc main_v23) : FVec Ideal S2100 .f32) = _
  rw [h23, h25, h4]
  exact deg1_eq X

/-- The matrix of the system. -/
theorem r4_mat (h22 : (σ (Proc.devRef .tc main_v22) : FVec Ideal S2100x2100 .f32) = sqE (affE X))
    (h26 : (σ (Proc.devRef .tc main_v26) : FVec Ideal S2100 .f32) = vecE (deg1 X)) :
    (after hostOps0_4 σ (Proc.devRef .tc main_v64_0) : FVec Ideal S2100x2100 .f32) = sq (mat X) := by
  entry_read
  rw [h22, h26, dinv_eq, eye_eq]
  exact mat_eq X

/-- The one-hot labels. -/
theorem r4_lab (h1 : ∀ i, (σ (Proc.devRef .tc main_arg1) : IVec S100 32) (ix1 i) = lab i) (hs : Small lab) :
    (after hostOps0_4 σ (Proc.devRef .tc main_v64_1) : FVec Ideal S2100x20 .f32) = tbl (hot lab) := by
  entry_read
  exact labels_eq _ lab h1 hs

/-- The first iterate is zero. -/
theorem r4_zero : (after hostOps0_4 σ (Proc.devRef .tc main_v64_4) : FVec Ideal S2100x20 .f32) = tbl 0 := by
  entry_read
  funext y
  idx_vars y
  pointwise []
  rfl

end

variable (m : (ℓ : Loc nD τ sig) → Buf (Elt Ideal) ℓ) (c : Dev nD)
variable {a : Fin 100 → Fin 768 → EReal} {lab : Fin 100 → BitVec 32} {q : Fin 2000 → Fin 768 → EReal}

/-- What the loop is entered with. -/
theorem entry (h0 : ∀ i k, (m ((c.tc : Thread nD τ).loc main_arg0) : FVec Ideal S100x768 .f32) (ix2 i k) = a i k)
    (h1 : ∀ i, (m ((c.tc : Thread nD τ).loc main_arg1) : IVec S100 32) (ix1 i) = lab i)
    (h2 : ∀ i k, (m ((c.tc : Thread nD τ).loc main_arg2) : FVec Ideal S2000x768 .f32) (ix2 i k) = q i k) (hs : Small lab) :
    Carries (entryContents preI m c) (mat (stack a q)) (hot lab) 0 := by
  have k2 : Masked (after hostOps0_1 (after hostOps0 (launchContents m c))) (stack a q) :=
    ⟨(after_of_writes_sub hostOps0_1 _ hostOps0_1_writes (by decide)).trans (r0_v7 h0 h2), r1_v8 (r0_v2 h0 h2)⟩
  have k3 := r3_v26 (r2_v23 k2) (r2_v25 k2) r2_cst
  have k22 : (after hostOps0_3 (after hostOps0_2 (after hostOps0_1 (after hostOps0 (launchContents m c)))) (Proc.devRef .tc main_v22) : FVec Ideal S2100x2100 .f32)
      = sqE (affE (stack a q)) := (after_of_writes_sub hostOps0_3 _ hostOps0_3_writes (by decide)).trans (r2_v22 k2)
  have k1 : (after hostOps0_3 (after hostOps0_2 (after hostOps0_1 (after hostOps0 (launchContents m c)))) (Proc.devRef .tc main_arg1) : IVec S100 32)
      = m ((c.tc : Thread nD τ).loc main_arg1) := by
    rw [keep_main_arg1_hostOps0_3, keep_main_arg1_hostOps0_2, keep_main_arg1_hostOps0_1, keep_main_arg1_hostOps0]
  exact ⟨r4_mat k22 k3, r4_lab (fun i => (congrFun k1 (ix1 i)).trans (h1 i)) hs, r4_zero⟩

/-- The scores the loop leaves. -/
theorem left (h0 : ∀ i k, (m ((c.tc : Thread nD τ).loc main_arg0) : FVec Ideal S100x768 .f32) (ix2 i k) = a i k)
    (h1 : ∀ i, (m ((c.tc : Thread nD τ).loc main_arg1) : IVec S100 32) (ix1 i) = lab i)
    (h2 : ∀ i k, (m ((c.tc : Thread nD τ).loc main_arg2) : FVec Ideal S2000x768 .f32) (ix2 i k) = q i k) (hs : Small lab) :
    ((STEP^[3] (entryContents preI m c)) (Proc.devRef .tc main_v64_4) : FVec Ideal S2100x20 .f32) = tbl (scores (stack a q) (hot lab)) := by
  refine (trips (entry m c h0 h1 h2 hs) 3).it.trans ?_
  rw [mul_mat]
  rfl

end Cert.ReferenceIdeal.Value

end
-- ==== Proof.Agree.lean ====
/- From memories that agree on the arguments and meet the precondition, the two programs leave the same three results. -/
module

public import proofs.«01_k».proof.Proof.PreArgs
public import proofs.«01_k».proof.Proof.KernelRun
public import proofs.«01_k».proof.Proof.RefValue

@[expose] public section

noncomputable section

namespace Cert.Agree

open Idealize.ShloMosaic Idealize.ShloMosaic.TcCoe Idealize.SL.Sem Cert.Spec

variable (m : (ℓ : Loc KernelIdeal.nD KernelIdeal.τ KernelIdeal.sig) → Buf (Elt Ideal) ℓ) (ρ : Dev KernelIdeal.nD → PrngReg)
  (m' : (ℓ : Loc ReferenceIdeal.nD ReferenceIdeal.τ ReferenceIdeal.sig) → Buf (Elt Ideal) ℓ) (c : Dev KernelIdeal.nD)

/-- The reference's memory `m'` holds the arguments of the kernel's memory `m`. -/
abbrev Same : Prop :=
  m' ((c.tc : Thread ReferenceIdeal.nD ReferenceIdeal.τ).loc ReferenceIdeal.main_arg0) = m ((c.tc : Thread KernelIdeal.nD KernelIdeal.τ).loc KernelIdeal.main_arg0)
  ∧ m' ((c.tc : Thread ReferenceIdeal.nD ReferenceIdeal.τ).loc ReferenceIdeal.main_arg1) = m ((c.tc : Thread KernelIdeal.nD KernelIdeal.τ).loc KernelIdeal.main_arg1)
  ∧ m' ((c.tc : Thread ReferenceIdeal.nD ReferenceIdeal.τ).loc ReferenceIdeal.main_arg2) = m ((c.tc : Thread KernelIdeal.nD KernelIdeal.τ).loc KernelIdeal.main_arg2)

variable {m m' c} {a : Fin 100 → Fin 768 → EReal} {lab : Fin 100 → BitVec 32} {q : Fin 2000 → Fin 768 → EReal}
  (h : KernelIdeal.Value.Args (m ((c.tc : Thread KernelIdeal.nD KernelIdeal.τ).loc KernelIdeal.main_arg0))
    (m ((c.tc : Thread KernelIdeal.nD KernelIdeal.τ).loc KernelIdeal.main_arg1))
    (m ((c.tc : Thread KernelIdeal.nD KernelIdeal.τ).loc KernelIdeal.main_arg2)) a lab q) (hs : Same m m' c)

include h hs

/-- The reference's loop leaves the scores of the kernel's arguments. -/
theorem scores_left : ((ReferenceIdeal.Value.STEP^[3] (Idealize.ShloMosaic.StableHlo.entryContents ReferenceIdeal.Value.preI m' c))
    (Proc.devRef .tc ReferenceIdeal.main_v64_4) : FVec Ideal ReferenceIdeal.S2100x20 .f32) = ReferenceIdeal.Value.tbl (scores (stack a q) (hot lab)) :=
  ReferenceIdeal.Value.left m' c (fun i k => (congrFun hs.1 (ix2 i k)).trans (h.support i k)) (fun i => (congrFun hs.2.1 (ix1 i)).trans (h.labels i))
    (fun i k => (congrFun hs.2.2 (ix2 i k)).trans (h.query i k)) h.small

/-- The labels agree. -/
theorem labels_agree : (ReferenceIdeal.Value.out_main_v91 (ReferenceIdeal.Value.STEP^[3] (StableHlo.entryContents ReferenceIdeal.Value.preI m' c)) : IVec KernelIdeal.S2000 32)
    = KernelIdeal.Gen.W7 m ρ c (Proc.devRef .tc KernelIdeal.main_v19) := by
  funext y
  rw [eq_ix1 y]
  exact (ReferenceIdeal.Value.out_labels (scores_left h hs) (y 0)).trans (KernelIdeal.Value.at7_labels m ρ c h (y 0)).symm

/-- The probabilities agree. -/
theorem probs_agree : (ReferenceIdeal.Value.out_main_v92 (ReferenceIdeal.Value.STEP^[3] (StableHlo.entryContents ReferenceIdeal.Value.preI m' c)) : FVec Ideal KernelIdeal.S2000x20 .f32)
    = KernelIdeal.Gen.W7 m ρ c (Proc.devRef .tc KernelIdeal.main_v20) := by
  funext y
  rw [eq_ix2 y]
  exact (ReferenceIdeal.Value.out_probs (scores_left h hs) (y 0) (y 1)).trans (KernelIdeal.Value.at7_probs m ρ c h (y 0) (y 1)).symm

/-- The negated greatest scores agree. -/
theorem amax_agree : (ReferenceIdeal.Value.out_main_v71 (ReferenceIdeal.Value.STEP^[3] (StableHlo.entryContents ReferenceIdeal.Value.preI m' c)) : FVec Ideal KernelIdeal.S2000 .f32)
    = KernelIdeal.Gen.W7 m ρ c (Proc.devRef .tc KernelIdeal.main_v22) := by
  funext y
  rw [eq_ix1 y]
  exact (ReferenceIdeal.Value.out_amax (scores_left h hs) (y 0)).trans (KernelIdeal.Value.at7_amax m ρ c h (y 0)).symm

end Cert.Agree

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_labelled
public import proofs.«01_k».proof.Proof.Agree
public import Idealize.ShloMosaic.Adequacy
public import Idealize.ShloMosaic.Init

@[expose] public section

noncomputable section

namespace Cert.Proof

open Idealize.ShloMosaic Idealize.SL.Sem

/-- The reference runs and returns its arguments, its counters at zero. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run (Cert.ReferenceIdeal.defs (F := Ideal)) _ _).mono
    (fun r h => ⟨fun c => (h c).2.2.2, Idealize.ShloMosaic.sem_eq_zero_of_no_sems (by decide) r.2⟩) (Cert.ReferenceIdeal.Value.run m g)

/-- The two programs' results agree. -/
theorem algebraic : algebraic_KernelIdeal_ReferenceIdeal_pre_labelled (hKernelIdeal := Cert.KernelIdeal.Gen.facts)
    (hReferenceIdeal := Cert.ReferenceIdeal.Gen.facts) (hPre_labelled := Cert.Pre_labelled.Gen.facts) := by
  intro m g m' g' hpre hsame
  refine ⟨fun c => Cert.KernelIdeal.Gen.W7 m g c (Proc.devRef .tc Cert.KernelIdeal.main_v19),
    fun c => Cert.KernelIdeal.Gen.W7 m g c (Proc.devRef .tc Cert.KernelIdeal.main_v20),
    fun c => Cert.KernelIdeal.Gen.W7 m g c (Proc.devRef .tc Cert.KernelIdeal.main_v22), Cert.KernelIdeal.Value.run m g, ?_⟩
  refine (θ_run (Cert.ReferenceIdeal.defs (F := Ideal)) _ _).mono (fun r h c => ?_) (Cert.ReferenceIdeal.Value.run m' g')
  obtain ⟨h0, h1, h2, hargs⟩ := h c
  have ha := Cert.KernelIdeal.Value.args_of_pre _ _ _ (hpre c)
  exact ⟨h0.trans (Cert.Agree.labels_agree g ha (hsame c)), h1.trans (Cert.Agree.probs_agree g ha (hsame c)),
    h2.trans (Cert.Agree.amax_agree g ha (hsame c)), hargs⟩

theorem claim : Cert.Claim :=
  ⟨Cert.Kernel.Gen.facts, Cert.KernelIdeal.Gen.facts, Cert.ReferenceIdeal.Gen.facts, Cert.Pre_labelled.Gen.facts,
    fun m g _ => Cert.Kernel.Gen.frame m g, fun m g _ => Cert.KernelIdeal.Gen.frame m g, fun m g _ => Cert.KernelIdeal.Gen.frame m g,
    fun m g _ => reference_frame m g, fun m g _ => reference_frame m g,
    IdealRules.named_const.statement Cert.KernelIdeal.κ "alpha" .f32 0x3F4CCCCD#32 ((4 / 5 : ℝ) : EReal) rfl, algebraic⟩

end Cert.Proof

end
